-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_scores_finite_KernelIdeal [hPre_scores_finite_KernelIdeal : Cert.Pre_scores_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_scores_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_scores_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_scores_finite_ReferenceIdeal [hPre_scores_finite_ReferenceIdeal : Cert.Pre_scores_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_scores_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_scores_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_scores_finite_KernelIdeal [hKernelIdeal : Cert.KernelIdeal.Facts] [hPre_scores_finite_KernelIdeal : Cert.Pre_scores_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_scores_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_scores_finite_ReferenceIdeal [hReferenceIdeal : Cert.ReferenceIdeal.Facts] [hPre_scores_finite_ReferenceIdeal : Cert.Pre_scores_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_scores_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_scores_finite_KernelIdeal [hKernelIdeal : Cert.KernelIdeal.Facts] [hReferenceIdeal : Cert.ReferenceIdeal.Facts] [hPre_scores_finite_KernelIdeal : Cert.Pre_scores_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_scores_finite_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = Layout.block ⟨3, ![2, 128, 256]⟩ ⟨3, ![8, 128, 256]⟩ 0 4 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v23) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_scores_finite_KernelIdeal : Cert.Pre_scores_finite_KernelIdeal.Facts) (hPre_scores_finite_ReferenceIdeal : Cert.Pre_scores_finite_ReferenceIdeal.Facts),
    quiescent_Kernel (hKernel := hKernel)
    ∧ quiescent_KernelIdeal (hKernelIdeal := hKernelIdeal)
    ∧ quiescent_KernelIdeal_pre_scores_finite_KernelIdeal (hKernelIdeal := hKernelIdeal) (hPre_scores_finite_KernelIdeal := hPre_scores_finite_KernelIdeal)
    ∧ quiescent_ReferenceIdeal (hReferenceIdeal := hReferenceIdeal)
    ∧ quiescent_ReferenceIdeal_pre_scores_finite_ReferenceIdeal (hReferenceIdeal := hReferenceIdeal) (hPre_scores_finite_ReferenceIdeal := hPre_scores_finite_ReferenceIdeal)
    ∧ preserves_Kernel_KernelIdeal
    ∧ algebraic_KernelIdeal_ReferenceIdeal_pre_scores_finite_KernelIdeal (hKernelIdeal := hKernelIdeal) (hReferenceIdeal := hReferenceIdeal) (hPre_scores_finite_KernelIdeal := hPre_scores_finite_KernelIdeal)
-- ==== Pre_scores_finite_KernelIdeal.lean ====
abbrev S256x128 : Shape := ⟨2, ![256, 128]⟩
abbrev S128x8 : Shape := ⟨2, ![128, 8]⟩
abbrev S256x1 : Shape := ⟨2, ![256, 1]⟩
abbrev S2x128x256 : Shape := ⟨3, ![2, 128, 256]⟩
abbrev S128x256 : Shape := ⟨2, ![128, 256]⟩
abbrev S_ : Shape := ⟨0, ![]⟩

class Facts : Prop where
  bcast_S_S256x128 : S_.BroadcastsInDim S256x128 (![] : Fin 0 → Fin S256x128.rank)
  bcast_S_S128x8 : S_.BroadcastsInDim S128x8 (![] : Fin 0 → Fin S128x8.rank)

variable [Facts]

def fn {F : FTy → Type} [FloatOps F] (main_arg0 : FVec F S256x128 .f32) (main_arg1 : FVec F S128x8 .f32) (main_arg2 : IVec S256x1 32) (main_arg3 : FVec F S2x128x256 .f32) (main_arg4 : FVec F S128x256 .f32) : IVec S256x128 1 × IVec S128x8 1 :=
  let main_v0 : FVec F S256x128 .f32 := Host.absf main_arg0
  let main_cst : FVec F S_ .f32 := constant S_ .f32 0x7F800000#32
  let main_v1 : FVec F S256x128 .f32 := broadcastInDim S256x128 ![] bcast_S_S256x128 main_cst
  let main_v2 : IVec S256x128 1 := cmpf .olt main_v0 main_v1
  let main_v3 : FVec F S128x8 .f32 := Host.absf main_arg1
  let main_cst_0 : FVec F S_ .f32 := constant S_ .f32 0x7F800000#32
  let main_v4 : FVec F S128x8 .f32 := broadcastInDim S128x8 ![] bcast_S_S128x8 main_cst_0
  let main_v5 : IVec S128x8 1 := cmpf .olt main_v3 main_v4
  (main_v2, main_v5)
-- ==== Pre_scores_finite_ReferenceIdeal.lean ====
abbrev S256x128 : Shape := ⟨2, ![256, 128]⟩
abbrev S128x8 : Shape := ⟨2, ![128, 8]⟩
abbrev S256x1 : Shape := ⟨2, ![256, 1]⟩
abbrev S8x128x256 : Shape := ⟨3, ![8, 128, 256]⟩
abbrev S128x256 : Shape := ⟨2, ![128, 256]⟩
abbrev S_ : Shape := ⟨0, ![]⟩

class Facts : Prop where
  bcast_S_S256x128 : S_.BroadcastsInDim S256x128 (![] : Fin 0 → Fin S256x128.rank)
  bcast_S_S128x8 : S_.BroadcastsInDim S128x8 (![] : Fin 0 → Fin S128x8.rank)

variable [Facts]

def fn {F : FTy → Type} [FloatOps F] (main_arg0 : FVec F S256x128 .f32) (main_arg1 : FVec F S128x8 .f32) (main_arg2 : IVec S256x1 32) (main_arg3 : FVec F S8x128x256 .f32) (main_arg4 : FVec F S128x256 .f32) : IVec S256x128 1 × IVec S128x8 1 :=
  let main_v0 : FVec F S256x128 .f32 := Host.absf main_arg0
  let main_cst : FVec F S_ .f32 := constant S_ .f32 0x7F800000#32
  let main_v1 : FVec F S256x128 .f32 := broadcastInDim S256x128 ![] bcast_S_S256x128 main_cst
  let main_v2 : IVec S256x128 1 := cmpf .olt main_v0 main_v1
  let main_v3 : FVec F S128x8 .f32 := Host.absf main_arg1
  let main_cst_0 : FVec F S_ .f32 := constant S_ .f32 0x7F800000#32
  let main_v4 : FVec F S128x8 .f32 := broadcastInDim S128x8 ![] bcast_S_S128x8 main_cst_0
  let main_v5 : IVec S128x8 1 := cmpf .olt main_v3 main_v4
  (main_v2, main_v5)
-- ==== Kernel.lean ====
abbrev S256x128 : Shape := ⟨2, ![256, 128]⟩
abbrev S128x8 : Shape := ⟨2, ![128, 8]⟩
abbrev S256x1 : Shape := ⟨2, ![256, 1]⟩
abbrev S2x128x256 : Shape := ⟨3, ![2, 128, 256]⟩
abbrev S128x256 : Shape := ⟨2, ![128, 256]⟩
abbrev S256x256 : Shape := ⟨2, ![256, 256]⟩
abbrev S3x64x256 : Shape := ⟨3, ![3, 64, 256]⟩
abbrev S3 : Shape := ⟨1, ![3]⟩
abbrev S_ : Shape := ⟨0, ![]⟩
abbrev S256x8 : Shape := ⟨2, ![256, 8]⟩
abbrev S256 : Shape := ⟨1, ![256]⟩
abbrev S1 : Shape := ⟨1, ![1]⟩
abbrev S1x64x256 : Shape := ⟨3, ![1, 64, 256]⟩
abbrev S64x256 : Shape := ⟨2, ![64, 256]⟩
abbrev S64x128 : Shape := ⟨2, ![64, 128]⟩

abbrev nBuf : Space → Nat
  | .hbm => 6
  | .vmem => 8
  | .smem => 0
  | _ => 0

abbrev bufTy : (tb : Table) → Fin (tcTables nBuf tb) → BufTy
  | .hbm, ⟨0, _⟩ => ⟨S256x128, .f32⟩
  | .hbm, ⟨1, _⟩ => ⟨S128x8, .f32⟩
  | .hbm, ⟨2, _⟩ => ⟨S256x1, .i32⟩
  | .hbm, ⟨3, _⟩ => ⟨S2x128x256, .f32⟩
  | .hbm, ⟨4, _⟩ => ⟨S128x256, .f32⟩
  | .hbm, ⟨5, _⟩ => ⟨S256x256, .f32⟩
  | .local _ .vmem, ⟨0, _⟩ => ⟨S256x128, .f32⟩
  | .local _ .vmem, ⟨1, _⟩ => ⟨S128x8, .f32⟩
  | .local _ .vmem, ⟨2, _⟩ => ⟨S256x1, .i32⟩
  | .local _ .vmem, ⟨3, _⟩ => ⟨S2x128x256, .f32⟩
  | .local _ .vmem, ⟨4, _⟩ => ⟨S128x256, .f32⟩
  | .local _ .vmem, ⟨5, _⟩ => ⟨S256x256, .f32⟩
  | .local _ .vmem, ⟨6, _⟩ => ⟨S256x256, .f32⟩
  | .local _ .vmem, ⟨7, _⟩ => ⟨S3x64x256, .f32⟩
  | _, _ => ⟨S256x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 1 → Bool
  | ⟨0, _⟩ => false
  | _ => false

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  (ofTc nBuf bufTy 1 18 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v5 : BitVec 32 := Scalar.addi v2 c1_i32_0
  let c4_i32_1 : BitVec 32 := 4#32
  let v6 : BitVec 32 := Scalar.remsi v5 c4_i32_1
  let c1_i32_3 : BitVec 32 := 1#32
  let v7 : BitVec 32 := Scalar.muli v6 c1_i32_3
  let v8 : BitVec 32 := Scalar.addi c0_i32 v7
  v8.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v9 : BitVec 32 := Scalar.addi v2 c2_i32
  let c4_i32_4 : BitVec 32 := 4#32
  let v10 : BitVec 32 := Scalar.remsi v9 c4_i32_4
  let c1_i32_6 : BitVec 32 := 1#32
  let v11 : BitVec 32 := Scalar.muli v10 c1_i32_6
  let v12 : BitVec 32 := Scalar.addi c0_i32_7 v11
  v12.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v13 : BitVec 32 := Scalar.addi v2 c3_i32
  let c4_i32_8 : BitVec 32 := 4#32
  let v14 : BitVec 32 := Scalar.remsi v13 c4_i32_8
  let c1_i32_10 : BitVec 32 := 1#32
  let v15 : BitVec 32 := Scalar.muli v14 c1_i32_10
  let v16 : BitVec 32 := Scalar.addi c0_i32_11 v15
  v16.toNat
def k0_off1 (d0 : Dev nD) (c1_i32_34 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v64 : BitVec 32 := Scalar.addi v2 c1_i32_34
  let c4_i32_35 : BitVec 32 := 4#32
  let v65 : BitVec 32 := Scalar.remsi v64 c4_i32_35
  let c64_i32_36 : BitVec 32 := 64#32
  let v66 : BitVec 32 := Scalar.muli v65 c64_i32_36
  let c0_i32_44 : BitVec 32 := 0#32
  ![v66.toNat, 0]
def k0_dev4 (d0 : Dev nD) : Nat :=
  let c0_i32_41 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_34 : BitVec 32 := 1#32
  let v64 : BitVec 32 := Scalar.addi v2 c1_i32_34
  let c4_i32_35 : BitVec 32 := 4#32
  let v65 : BitVec 32 := Scalar.remsi v64 c4_i32_35
  let c1_i32_40 : BitVec 32 := 1#32
  let v67 : BitVec 32 := Scalar.muli v65 c1_i32_40
  let v68 : BitVec 32 := Scalar.addi c0_i32_41 v67
  v68.toNat
def k0_dev5 (d0 : Dev nD) : Nat :=
  let c0_i32_52 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_45 : BitVec 32 := 2#32
  let v76 : BitVec 32 := Scalar.addi v2 c2_i32_45
  let c4_i32_46 : BitVec 32 := 4#32
  let v77 : BitVec 32 := Scalar.remsi v76 c4_i32_46
  let c1_i32_51 : BitVec 32 := 1#32
  let v79 : BitVec 32 := Scalar.muli v77 c1_i32_51
  let v80 : BitVec 32 := Scalar.addi c0_i32_52 v79
  v80.toNat
def k0_dev6 (d0 : Dev nD) : Nat :=
  let c0_i32_63 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_56 : BitVec 32 := 3#32
  let v88 : BitVec 32 := Scalar.addi v2 c3_i32_56
  let c4_i32_57 : BitVec 32 := 4#32
  let v89 : BitVec 32 := Scalar.remsi v88 c4_i32_57
  let c1_i32_62 : BitVec 32 := 1#32
  let v91 : BitVec 32 := Scalar.muli v89 c1_i32_62
  let v92 : BitVec 32 := Scalar.addi c0_i32_63 v91
  v92.toNat
def k0_off2 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c64_i32 : BitVec 32 := 64#32
  let v3 : BitVec 32 := Scalar.muli v2 c64_i32
  let v100 : Index := Scalar.indexCast v3
  let c0_67 : Index := 0#32
  ![v100.toNat, 0]
def k0_off3 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c64_i32 : BitVec 32 := 64#32
  let v3 : BitVec 32 := Scalar.muli v2 c64_i32
  let v103 : Index := Scalar.indexCast v3
  let c0_68 : Index := 0#32
  ![v103.toNat, 0]
def k0_off4 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c64_i32 : BitVec 32 := 64#32
  let v3 : BitVec 32 := Scalar.muli v2 c64_i32
  let c0_i32_110 : BitVec 32 := 0#32
  ![v3.toNat, 0]
def k0_dev7 (d0 : Dev nD) : Nat :=
  let c0_i32_109 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_104 : BitVec 32 := 1#32
  let v141 : BitVec 32 := Scalar.addi v2 c1_i32_104
  let c4_i32_105 : BitVec 32 := 4#32
  let v142 : BitVec 32 := Scalar.remsi v141 c4_i32_105
  let c1_i32_108 : BitVec 32 := 1#32
  let v143 : BitVec 32 := Scalar.muli v142 c1_i32_108
  let v144 : BitVec 32 := Scalar.addi c0_i32_109 v143
  v144.toNat
def k0_dev8 (d0 : Dev nD) : Nat :=
  let c0_i32_117 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_112 : BitVec 32 := 2#32
  let v151 : BitVec 32 := Scalar.addi v2 c2_i32_112
  let c4_i32_113 : BitVec 32 := 4#32
  let v152 : BitVec 32 := Scalar.remsi v151 c4_i32_113
  let c1_i32_116 : BitVec 32 := 1#32
  let v153 : BitVec 32 := Scalar.muli v152 c1_i32_116
  let v154 : BitVec 32 := Scalar.addi c0_i32_117 v153
  v154.toNat
def k0_dev9 (d0 : Dev nD) : Nat :=
  let c0_i32_125 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_120 : BitVec 32 := 3#32
  let v161 : BitVec 32 := Scalar.addi v2 c3_i32_120
  let c4_i32_121 : BitVec 32 := 4#32
  let v162 : BitVec 32 := Scalar.remsi v161 c4_i32_121
  let c1_i32_124 : BitVec 32 := 1#32
  let v163 : BitVec 32 := Scalar.muli v162 c1_i32_124
  let v164 : BitVec 32 := Scalar.addi c0_i32_125 v163
  v164.toNat
abbrev stage0_0 : Fin 1 → Memref sig .tc .vmem S256x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x8 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S256x1 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x128x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S128x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S256x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S256x128 : Shape := ⟨2, ![256, 128]⟩
abbrev S128x8 : Shape := ⟨2, ![128, 8]⟩
abbrev S256x1 : Shape := ⟨2, ![256, 1]⟩
abbrev S8x128x256 : Shape := ⟨3, ![8, 128, 256]⟩
abbrev S128x256 : Shape := ⟨2, ![128, 256]⟩
abbrev S256x8 : Shape := ⟨2, ![256, 8]⟩
abbrev S_ : Shape := ⟨0, ![]⟩
abbrev S256 : Shape := ⟨1, ![256]⟩
abbrev S256x256 : Shape := ⟨2, ![256, 256]⟩
abbrev S256x1x1 : Shape := ⟨3, ![256, 1, 1]⟩
abbrev S256x128x256 : Shape := ⟨3, ![256, 128, 256]⟩

abbrev nBuf : Space → Nat
  | .hbm => 45
  | .vmem => 0
  | .smem => 0
  | _ => 0

abbrev bufTy : (tb : Table) → Fin (tcTables nBuf tb) → BufTy
  | .hbm, ⟨0, _⟩ => ⟨S256x128, .f32⟩
  | .hbm, ⟨1, _⟩ => ⟨S128x8, .f32⟩
  | .hbm, ⟨2, _⟩ => ⟨S256x1, .i32⟩
  | .hbm, ⟨3, _⟩ => ⟨S8x128x256, .f32⟩
  | .hbm, ⟨4, _⟩ => ⟨S128x256, .f32⟩
  | .hbm, ⟨5, _⟩ => ⟨S256x8, .f32⟩
  | .hbm, ⟨6, _⟩ => ⟨S_, .f32⟩
  | .hbm, ⟨7, _⟩ => ⟨S256, .f32⟩
  | .hbm, ⟨8, _⟩ => ⟨S256x1, .f32⟩
  | .hbm, ⟨9, _⟩ => ⟨S256x8, .f32⟩
  | .hbm, ⟨10, _⟩ => ⟨S256x8, .f32⟩
  | .hbm, ⟨11, _⟩ => ⟨S256x8, .f32⟩
  | .hbm, ⟨12, _⟩ => ⟨S_, .f32⟩
  | .hbm, ⟨13, _⟩ => ⟨S256, .f32⟩
  | .hbm, ⟨14, _⟩ => ⟨S256x1, .f32⟩
  | .hbm, ⟨15, _⟩ => ⟨S256x8, .f32⟩
  | .hbm, ⟨16, _⟩ => ⟨S256x8, .f32⟩
  | .hbm, ⟨17, _⟩ => ⟨S256x256, .f32⟩
  | .hbm, ⟨18, _⟩ => ⟨S_, .i32⟩
  | .hbm, ⟨19, _⟩ => ⟨S256x1, .i32⟩
  | .hbm, ⟨20, _⟩ => ⟨S256x1, .i1⟩
  | .hbm, ⟨21, _⟩ => ⟨S_, .i32⟩
  | .hbm, ⟨22, _⟩ => ⟨S256x1, .i32⟩
  | .hbm, ⟨23, _⟩ => ⟨S256x1, .i1⟩
  | .hbm, ⟨24, _⟩ => ⟨S256x1, .i1⟩
  | .hbm, ⟨25, _⟩ => ⟨S_, .i32⟩
  | .hbm, ⟨26, _⟩ => ⟨S256x1, .i32⟩
  | .hbm, ⟨27, _⟩ => ⟨S256x1, .i1⟩
  | .hbm, ⟨28, _⟩ => ⟨S_, .i32⟩
  | .hbm, ⟨29, _⟩ => ⟨S256x1, .i32⟩
  | .hbm, ⟨30, _⟩ => ⟨S256x1, .i32⟩
  | .hbm, ⟨31, _⟩ => ⟨S256x1, .i32⟩
  | .hbm, ⟨32, _⟩ => ⟨S256x1x1, .i32⟩
  | .hbm, ⟨33, _⟩ => ⟨S256x1, .f32⟩
  | .hbm, ⟨34, _⟩ => ⟨S_, .f32⟩
  | .hbm, ⟨35, _⟩ => ⟨S_, .f32⟩
  | .hbm, ⟨36, _⟩ => ⟨S256x1, .f32⟩
  | .hbm, ⟨37, _⟩ => ⟨S256x1, .f32⟩
  | .hbm, ⟨38, _⟩ => ⟨S256, .i32⟩
  | .hbm, ⟨39, _⟩ => ⟨S256x1, .i32⟩
  | .hbm, ⟨40, _⟩ => ⟨S256x128x256, .f32⟩
  | .hbm, ⟨41, _⟩ => ⟨S256x256, .f32⟩
  | .hbm, ⟨42, _⟩ => ⟨S256x256, .f32⟩
  | .hbm, ⟨43, _⟩ => ⟨S256x256, .f32⟩
  | .hbm, ⟨44, _⟩ => ⟨S256x256, .f32⟩
  | _, _ => ⟨S256x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_c : Ref sig .tc := ⟨.hbm, 18, rfl⟩
abbrev main_v11 : Ref sig .tc := ⟨.hbm, 19, rfl⟩
abbrev main_v12 : Ref sig .tc := ⟨.hbm, 20, rfl⟩
abbrev main_c_1 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_call0_c : Ref sig .tc := ⟨.hbm, 25, rfl⟩
abbrev main_call0_v0 : Ref sig .tc := ⟨.hbm, 26, rfl⟩
abbrev main_call0_v1 : Ref sig .tc := ⟨.hbm, 27, rfl⟩
abbrev main_call0_c_0 : Ref sig .tc := ⟨.hbm, 28, rfl⟩
abbrev main_call0_v2 : Ref sig .tc := ⟨.hbm, 29, rfl⟩
abbrev main_call0_v3 : Ref sig .tc := ⟨.hbm, 30, rfl⟩
abbrev main_call0_v4 : Ref sig .tc := ⟨.hbm, 31, rfl⟩
abbrev main_call0_v5 : Ref sig .tc := ⟨.hbm, 32, rfl⟩
abbrev main_v16 : Ref sig .tc := ⟨.hbm, 33, rfl⟩
abbrev main_cst_2 : Ref sig .tc := ⟨.hbm, 34, rfl⟩
abbrev main_call1_v0 : Ref sig .tc := ⟨.hbm, 35, rfl⟩
abbrev main_call1_v1 : Ref sig .tc := ⟨.hbm, 36, rfl⟩
abbrev main_v17 : Ref sig .tc := ⟨.hbm, 37, rfl⟩
abbrev main_v18 : Ref sig .tc := ⟨.hbm, 38, rfl⟩
abbrev main_call2_v0 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩

abbrev nD : Nat := 1
abbrev τ : Topo := Topo.v7x

variable {F : FTy → Type} [FloatOps F]
-- ==== Proof.Value.Layer.lean ====
/-
The layer's mathematics over the extended reals, free of both programs: a token's scores, the softmax weight of an expert,
what one expert contributes to a token, and the identity that makes the two programs agree. A program may weight the token
before its product with an expert or weight the product, since the weight is a real number that is not negative; and adding
up the contributions of all eight experts, each weighted by the gate of a token that is routed to it and by zero otherwise,
leaves the contribution of the one expert that the token is routed to.
-/
module

public import Idealize.ShloMosaic.PureOps.Ideal.Laws
public import Idealize.ShloMosaic.Lib.ValueIdx

@[expose] public section

noncomputable section

namespace Cert.Layer

open Idealize.ShloMosaic Idealize.ShloMosaic.ValueIdx
open scoped BigOperators

/-- The tokens, the router's weights, the experts' weights and the shared expert's. -/
abbrev Tok : Type := (⟨2, ![256, 128]⟩ : Shape).Idx → EReal
abbrev Rtr : Type := (⟨2, ![128, 8]⟩ : Shape).Idx → EReal
abbrev Exps : Type := (⟨3, ![8, 128, 256]⟩ : Shape).Idx → EReal
abbrev Shr : Type := (⟨2, ![128, 256]⟩ : Shape).Idx → EReal

/-- Every element is a real number. -/
def Finite {s : Shape} (x : s.Idx → EReal) : Prop := ∀ i, x i ≠ ⊤ ∧ x i ≠ ⊥

/-- Token `i`'s score for expert `e`. -/
def score (x : Tok) (w : Rtr) (i : Fin 256) (e : Fin 8) : EReal := ∑ k : Fin 128, x (ix2 i k) * w (ix2 k e)

/-- The greatest of eight scores, from minus infinity. -/
def top (s : Fin 8 → EReal) : EReal := Finset.univ.fold max (Ideal.ofBits .f32 0xFF800000#32) s

/-- The softmax weight of expert `e` among eight scores. -/
def prob (s : Fin 8 → EReal) (e : Fin 8) : EReal :=
  Ideal.div (Ideal.exp (s e - top s)) (∑ k : Fin 8, Ideal.exp (s k - top s))

/-- The product of token `i` and expert `e` at output `o`. -/
def product (x : Tok) (W : Exps) (i : Fin 256) (o : Fin 256) (e : Fin 8) : EReal :=
  ∑ k : Fin 128, x (ix2 i k) * W (ix3 e k o)

/-- The shared expert's product. -/
def shared (x : Tok) (S : Shr) (i : Fin 256) (o : Fin 256) : EReal := ∑ k : Fin 128, x (ix2 i k) * S (ix2 k o)

/-- The gate as the eight devices' program computes it: the sum of the weights over the experts that the word names. -/
def gate (p : Fin 8 → EReal) (r : BitVec 32) : EReal := ∑ e : Fin 8, if BitVec.ofNat 32 e.val = r then p e else 0

/-- Expert `e`'s weight for a token routed to `r`: the gate if it is the one, zero if not. -/
def coef (p : Fin 8 → EReal) (r : BitVec 32) (e : Fin 8) : EReal := if r = BitVec.ofNat 32 e.val then gate p r else 0

/-- Expert `e`'s product with token `i` weighted by `g`. -/
def term (x : Tok) (W : Exps) (i : Fin 256) (o : Fin 256) (g : EReal) (e : Fin 8) : EReal :=
  ∑ k : Fin 128, (x (ix2 i k) * g) * W (ix3 e k o)

/-! ## The weights are real numbers -/

/-- An extended real other than the two infinities is a real number. -/
theorem exists_coe {a : EReal} (h : a ≠ ⊤ ∧ a ≠ ⊥) : ∃ r : ℝ, a = (r : EReal) :=
  ⟨a.toReal, (EReal.coe_toReal h.1 h.2).symm⟩

/-- A finite sum of real numbers is a real number. -/
theorem sum_coe {n : ℕ} (f : Fin n → ℝ) : ∑ k, ((f k : ℝ) : EReal) = ((∑ k, f k : ℝ) : EReal) := by
  classical
  induction (Finset.univ : Finset (Fin n)) using Finset.induction_on with
  | empty => simp
  | insert a s ha ih => rw [Finset.sum_insert ha, Finset.sum_insert ha, ih, EReal.coe_add]

/-- The scores of real tokens under real router weights are real. -/
theorem score_finite {x : Tok} {w : Rtr} (hx : Finite x) (hw : Finite w) (i : Fin 256) (e : Fin 8) :
    score x w i e ≠ ⊤ ∧ score x w i e ≠ ⊥ := by
  choose a ha using fun k : Fin 128 => exists_coe (hx (ix2 i k))
  choose b hb using fun k : Fin 128 => exists_coe (hw (ix2 k e))
  have h : score x w i e = ((∑ k, a k * b k : ℝ) : EReal) := by
    rw [← sum_coe]
    exact Finset.sum_congr rfl fun k _ => by rw [ha, hb, EReal.coe_mul]
  rw [h]
  exact ⟨EReal.coe_ne_top _, EReal.coe_ne_bot _⟩

/-- The greatest of eight real scores is real. -/
theorem top_finite {s : Fin 8 → EReal} (hs : ∀ e, s e ≠ ⊤ ∧ s e ≠ ⊥) : top s ≠ ⊤ ∧ top s ≠ ⊥ := by
  have hb : Ideal.ofBits .f32 0xFF800000#32 = (⊥ : EReal) := by simp [Ideal.ofBits, Ideal.ieee]
  unfold top
  rw [hb]
  constructor
  · refine ne_of_lt ?_
    rw [Finset.fold_max_lt]
    exact ⟨bot_lt_top, fun e _ => lt_top_iff_ne_top.mpr (hs e).1⟩
  · refine ne_of_gt ?_
    rw [Finset.lt_fold_max]
    exact Or.inr ⟨0, Finset.mem_univ _, bot_lt_iff_ne_bot.mpr (hs 0).2⟩

/-- A softmax weight of real scores is a real number that is not negative. -/
theorem prob_real {s : Fin 8 → EReal} (hs : ∀ e, s e ≠ ⊤ ∧ s e ≠ ⊥) (e : Fin 8) : 0 ≤ prob s e ∧ prob s e ≠ ⊤ := by
  choose a ha using fun e => exists_coe (hs e)
  obtain ⟨t, ht⟩ := exists_coe (top_finite hs)
  have he : ∀ k, Ideal.exp (s k - top s) = ((Real.exp (a k - t) : ℝ) : EReal) := fun k => by
    rw [ha, ht, ← EReal.coe_sub, Ideal.exp_coe]
  have hpos : 0 < ∑ k : Fin 8, Real.exp (a k - t) := Finset.sum_pos (fun k _ => Real.exp_pos _) ⟨0, Finset.mem_univ _⟩
  have h : prob s e = ((Real.exp (a e - t) * (∑ k : Fin 8, Real.exp (a k - t))⁻¹ : ℝ) : EReal) := by
    unfold prob
    rw [Finset.sum_congr rfl fun k _ => he k, sum_coe, he]
    unfold Ideal.div
    rw [if_neg (by exact_mod_cast hpos.ne'), EReal.coe_mul, EReal.coe_inv]
  rw [h]
  exact ⟨by exact_mod_cast (mul_pos (Real.exp_pos _) (inv_pos.mpr hpos)).le, EReal.coe_ne_top _⟩

/-! ## Weighting the token is weighting the product -/

/-- A real factor that is not negative goes into a finite sum. -/
theorem mul_sum_of_real {n : ℕ} {g : EReal} (h0 : 0 ≤ g) (ht : g ≠ ⊤) (f : Fin n → EReal) : g * ∑ k, f k = ∑ k, g * f k := by
  classical
  induction (Finset.univ : Finset (Fin n)) using Finset.induction_on with
  | empty => simp
  | insert a s ha ih =>
    rw [Finset.sum_insert ha, Finset.sum_insert ha, ← ih]
    exact EReal.left_distrib_of_nonneg_of_ne_top h0 ht _ _

/-- An expert's product with the weighted token is the weighted product. -/
theorem term_eq {g : EReal} (h0 : 0 ≤ g) (ht : g ≠ ⊤) (x : Tok) (W : Exps) (i o : Fin 256) (e : Fin 8) :
    term x W i o g e = g * product x W i o e := by
  unfold term product
  rw [mul_sum_of_real h0 ht]
  exact Finset.sum_congr rfl fun k _ => by rw [mul_comm (x (ix2 i k)) g, mul_assoc]

/-- With weight zero an expert contributes nothing. -/
theorem term_zero (x : Tok) (W : Exps) (i o : Fin 256) (e : Fin 8) : term x W i o 0 e = 0 := by
  unfold term
  exact Finset.sum_eq_zero fun k _ => by rw [mul_zero, zero_mul]

/-! ## The experts' contributions together -/

/-- Two experts' numbers are one word only if they are one expert. -/
theorem word_inj {e e' : Fin 8} : BitVec.ofNat 32 e.val = BitVec.ofNat 32 e'.val ↔ e = e' := by revert e e'; decide

/-- The gate of a token routed to expert `e` is its softmax weight. -/
theorem gate_word (p : Fin 8 → EReal) (e : Fin 8) : gate p (BitVec.ofNat 32 e.val) = p e := by
  unfold gate
  rw [Finset.sum_congr rfl fun k _ => if_congr word_inj rfl rfl, Finset.sum_ite_eq' Finset.univ e p, if_pos (Finset.mem_univ e)]

/-- Of a token routed to expert `e`, the eight contributions add up to that expert's weighted product. -/
theorem sum_terms_of_word (x : Tok) (W : Exps) (i o : Fin 256) {p : Fin 8 → EReal} (hp : ∀ e, 0 ≤ p e ∧ p e ≠ ⊤) (e : Fin 8) :
    ∑ e' : Fin 8, term x W i o (coef p (BitVec.ofNat 32 e.val) e') e' = p e * product x W i o e := by
  have h : ∀ e' : Fin 8, term x W i o (coef p (BitVec.ofNat 32 e.val) e') e' = if e = e' then p e * product x W i o e else 0 := by
    intro e'
    unfold coef
    rw [if_congr (word_inj (e := e) (e' := e')) rfl rfl, gate_word]
    by_cases he : e = e'
    · subst he
      rw [if_pos rfl, if_pos rfl, term_eq (hp e).1 (hp e).2]
    · rw [if_neg he, if_neg he, term_zero]
  rw [Finset.sum_congr rfl fun e' _ => h e', Finset.sum_ite_eq Finset.univ e, if_pos (Finset.mem_univ e)]

/-- Of a token routed to none of the eight experts, they add up to zero. -/
theorem sum_terms_of_no_word (x : Tok) (W : Exps) (i o : Fin 256) (p : Fin 8 → EReal) {r : BitVec 32}
    (hr : ∀ e : Fin 8, r ≠ BitVec.ofNat 32 e.val) : ∑ e : Fin 8, term x W i o (coef p r e) e = 0 := by
  refine Finset.sum_eq_zero fun e _ => ?_
  unfold coef
  rw [if_neg (hr e), term_zero]

end Cert.Layer

end
-- ==== Proof.KernelIdealRun.Geometry.lean ====
/-
The kernel's buffers by their pieces: which elements each sliced view names, and what a copy, a store or a load
through such a view does to whole-buffer contents.
-/
module

public import proofs.«01_k».proof.Proof.Gen.KernelIdeal
public import proofs.«01_k».proof.Proof.Gen.KernelIdeal.Skeleton
public import Idealize.ShloMosaic.Lib.ValueIdxCoords
public import Idealize.ShloMosaic.Lib.ValueLayout
public import Idealize.ShloMosaic.Lib.Tactic

@[expose] public section

noncomputable section

namespace Cert.KernelIdeal.Run

open Cert.KernelIdeal Cert.KernelIdeal.Gen
open Idealize.ShloMosaic Idealize.ShloMosaic.TcCoe Idealize.ShloMosaic.ValueIdx

variable {F : FTy → Type} [FloatOps F]

/-! ## The four devices -/

set_option backward.proofsInPublic true in
/-- The device `j + 1` places after `c`: the one `c` writes slot `j` of, and sends its finished rows to in copy `j`. -/
def fwd (c : Dev nD) (j : Fin 3) : Dev nD := ⟨(c.val + j.val + 1) % 4, Nat.mod_lt _ (by decide)⟩

set_option backward.proofsInPublic true in
/-- The device `j + 1` places before `c`: the one that writes slot `j` of `c`. -/
def bwd (c : Dev nD) (j : Fin 3) : Dev nD := ⟨(c.val + 3 - j.val) % 4, Nat.mod_lt _ (by decide)⟩

/-- Going forward and back by the same step is standing still, -/
theorem bwd_fwd (c : Dev nD) (j : Fin 3) : bwd (fwd c j) j = c := by revert c j; decide
/-- in either order. -/
theorem fwd_bwd (c : Dev nD) (j : Fin 3) : fwd (bwd c j) j = c := by revert c j; decide

/-- The duty (of the three of a barrier cell) that a device's signal number `k` pays. -/
def rv (k : Fin 3) : Fin 3 := ⟨2 - k.val, by omega⟩
/-- The device a signal goes to is the one whose duty this is: `c` is `rv k + 1` places after it. -/
theorem fwd_fwd_rv (c : Dev nD) (k : Fin 3) : fwd (fwd c k) (rv k) = c := by revert c k; decide

/-- Moving by one step is a permutation of the devices. -/
def step (j : Fin 3) : Dev nD ≃ Dev nD := ⟨fun c => fwd c j, fun c => bwd c j, fun c => bwd_fwd c j, fun c => fwd_bwd c j⟩

/-! ## The pieces of the buffers -/

/-- The elements of rows `64 b … 64 b + 63` of a 256 by 256 buffer. -/
def rows (b : Dev nD) : Finset S256x256.Idx := Finset.univ.filter fun i => (i 0).val / 64 = b.val
/-- The elements of slot `j` of the three landing slots. -/
def slot (j : Fin 3) : Finset S3x64x256.Idx := Finset.univ.filter fun i => (i 0).val = j.val

theorem mem_rows {b : Dev nD} {i : S256x256.Idx} : i ∈ rows b ↔ (i 0).val / 64 = b.val := by simp [rows]
theorem mem_slot {j : Fin 3} {i : S3x64x256.Idx} : i ∈ slot j ↔ (i 0).val = j.val := by simp [slot]

/-- Two row blocks have no element in common, -/
theorem rows_disjoint (b b' : Dev nD) (h : b ≠ b') : Disjoint (rows b) (rows b') :=
  Finset.disjoint_left.mpr fun i h1 h2 => h (Fin.ext ((mem_rows.mp h1).symm.trans (mem_rows.mp h2)))
/-- and the four of them are the buffer. -/
theorem rows_cover : Finset.univ.biUnion rows = Finset.univ := by
  ext i
  simp only [Finset.mem_biUnion, Finset.mem_univ, true_and, iff_true]
  have hi : (i 0).val < 256 := (i 0).isLt
  exact ⟨⟨(i 0).val / 64, by show (i 0).val / 64 < 4; omega⟩, mem_rows.mpr rfl⟩
/-- Two slots have no element in common, -/
theorem slot_disjoint (b b' : Fin 3) (h : b ≠ b') : Disjoint (slot b) (slot b') :=
  Finset.disjoint_left.mpr fun i h1 h2 => h (Fin.ext ((mem_slot.mp h1).symm.trans (mem_slot.mp h2)))
/-- and the three of them are the landing buffer. -/
theorem slot_cover : Finset.univ.biUnion slot = Finset.univ := by
  ext i
  simp only [Finset.mem_biUnion, Finset.mem_univ, true_and, iff_true]
  exact ⟨⟨(i 0).val, (i 0).isLt⟩, mem_slot.mpr rfl⟩

/-! ## The views the copies name -/

/-- The kernel's operands and scratch as whole views. -/
abbrev srcB : Memref sig .tc .vmem S256x256 .f32 := Memref.whole cc0_scratch0
abbrev rsB : Memref sig .tc .vmem S3x64x256 .f32 := Memref.whole cc0_scratch1
abbrev outB : Memref sig .tc .vmem S256x256 .f32 := Memref.whole cc0_stg5_0
abbrev xB : Memref sig .tc .vmem S256x128 .f32 := Memref.whole cc0_stg0_0

/-- A slot of the landing buffer starts at its own number, whole on the other axes. -/
theorem inbSlot : ∀ j : Fin 3, ∀ a, (![j.val, 0, 0] : Fin 3 → Nat) a + S1x64x256.size a ≤ S3x64x256.size a := by decide

/-- The rectangle of the rows device `c` sends in its copy number `j`. -/
abbrev srcR (c : Dev nD) (j : Fin 3) : Rect S256x256 :=
  Rect.unit (s := S256x256) (k0_off1 c (BitVec.ofNat 32 (1 + j.val))) S64x256.size (k0_off1_inb c j)
/-- The rectangle of landing slot `j`. -/
abbrev slotR (j : Fin 3) : Rect S3x64x256 := Rect.unit (s := S3x64x256) ![j.val, 0, 0] S1x64x256.size (inbSlot j)
/-- The rectangle of device `c`'s own rows, as the loads and the store name it, -/
abbrev ownR (c : Dev nD) : Rect S256x256 := Rect.unit (s := S256x256) (k0_off3 c) S64x256.size (k0_off3_inb c)
/-- as the copies name it, -/
abbrev outR (c : Dev nD) : Rect S256x256 := Rect.unit (s := S256x256) (k0_off4 c) S64x256.size (k0_off4_inb c)
/-- and of the tokens' array. -/
abbrev xR (c : Dev nD) : Rect S256x128 := Rect.unit (s := S256x128) (k0_off2 c) S64x128.size (k0_off2_inb c)

abbrev srcM (c : Dev nD) (j : Fin 3) : Memref sig .tc .vmem S64x256 .f32 := srcB.slice (srcR c j) (fun _ => rfl)
abbrev slotM (j : Fin 3) : Memref sig .tc .vmem S64x256 .f32 :=
  (rsB.slice (slotR j) (fun _ => rfl)).squeeze S64x256 squeezes_S1x64x256_S64x256
abbrev outM (c : Dev nD) : Memref sig .tc .vmem S64x256 .f32 := outB.slice (outR c) (fun _ => rfl)

theorem mem_unit2 {off : Fin 2 → Nat} {inb : ∀ a, off a + S64x256.size a ≤ S256x256.size a} {d : ℕ} (h : off = ![64 * d, 0])
    {i : S256x256.Idx} : i ∈ (Rect.unit (s := S256x256) off S64x256.size inb).set ↔ (i 0).val / 64 = d := by
  subst h
  rw [Rect.mem_set_unit]
  have h1 : (i 1).val < 256 := (i 1).isLt
  constructor
  · intro h
    have h0 := h 0
    have h0' : 64 * d ≤ (i 0).val ∧ (i 0).val < 64 * d + 64 := h0
    omega
  · intro h a
    fin_cases a
    · show 64 * d ≤ (i 0).val ∧ (i 0).val < 64 * d + 64
      omega
    · show 0 ≤ (i 1).val ∧ (i 1).val < 0 + 256
      omega

/-- The elements under each of those views. -/
theorem srcM_set (c : Dev nD) (j : Fin 3) : (srcM c j).view.set = rows (fwd c j) := by
  refine (View.set_slice_whole cc0_scratch0 (srcR c j)).trans (Finset.ext fun i => ?_)
  rw [mem_unit2 (k0_off1_eq c j), mem_rows]; rfl
theorem outM_set (c : Dev nD) : (outM c).view.set = rows c := by
  refine (View.set_slice_whole cc0_stg5_0 (outR c)).trans (Finset.ext fun i => ?_)
  rw [mem_unit2 (k0_off4_eq c), mem_rows]
theorem ownR_set (c : Dev nD) : (ownR c).set = rows c := by
  refine Finset.ext fun i => ?_
  rw [mem_unit2 (k0_off3_eq c), mem_rows]
theorem slotR_set (j : Fin 3) : (slotR j).set = slot j := by
  refine Finset.ext fun i => ?_
  rw [Rect.mem_set_unit, mem_slot]
  have h1 : (i 1).val < 64 := (i 1).isLt
  have h2 : (i 2).val < 256 := (i 2).isLt
  constructor
  · intro h
    have h0 : j.val ≤ (i 0).val ∧ (i 0).val < j.val + 1 := h 0
    omega
  · intro h a
    fin_cases a
    · show j.val ≤ (i 0).val ∧ (i 0).val < j.val + 1
      omega
    · show 0 ≤ (i 1).val ∧ (i 1).val < 0 + 64
      omega
    · show 0 ≤ (i 2).val ∧ (i 2).val < 0 + 256
      omega
theorem slotM_set (j : Fin 3) : (slotM j).view.set = slot j :=
  ((View.set_reshape (v := (rsB.slice (slotR j) (fun _ => rfl)).view) (squeezes_S1x64x256_S64x256).numel_eq).trans (View.set_slice_whole cc0_scratch1 (slotR j))).trans (slotR_set j)

/-! ## Where an index of such a view lies -/

/-- An index of the whole 256 by 256 buffer from a row block and a place inside it. -/
def at2 (b : Dev nD) (y : S64x256.Idx) : S256x256.Idx :=
  ix2 (n0 := 256) (n1 := 256) ⟨64 * b.val + (y 0).val, by have h1 : b.val < 4 := b.isLt; have h2 : (y 0).val < 64 := (y 0).isLt; omega⟩ ⟨(y 1).val, (y 1).isLt⟩
/-- An index of the landing buffer from a slot and a place inside it. -/
def at3 (j : Fin 3) (y : S64x256.Idx) : S3x64x256.Idx :=
  ix3 (n0 := 3) (n1 := 64) (n2 := 256) j ⟨(y 0).val, (y 0).isLt⟩ ⟨(y 1).val, (y 1).isLt⟩

theorem emb_unit2 {off : Fin 2 → Nat} {inb : ∀ a, off a + S64x256.size a ≤ S256x256.size a} {b : Dev nD} (h : off = ![64 * b.val, 0])
    (y : S64x256.Idx) : (Rect.unit (s := S256x256) off S64x256.size inb).emb y = at2 b y := by
  subst h
  funext a
  apply Fin.ext
  rw [Rect.emb_apply]
  fin_cases a
  · show 64 * b.val + 1 * (y 0).val = 64 * b.val + (y 0).val
    omega
  · show 0 + 1 * (y 1).val = (y 1).val
    omega

theorem srcM_emb (c : Dev nD) (j : Fin 3) (y : S64x256.Idx) : (srcM c j).view.emb y = at2 (fwd c j) y := emb_unit2 (k0_off1_eq c j) y
theorem outM_emb (c : Dev nD) (y : S64x256.Idx) : (outM c).view.emb y = at2 c y := emb_unit2 (k0_off4_eq c) y
theorem ownR_emb (c : Dev nD) (y : S64x256.Idx) : (ownR c).emb y = at2 c y := emb_unit2 (k0_off3_eq c) y
theorem slotM_emb (j : Fin 3) (y : S64x256.Idx) : (slotM j).view.emb y = at3 j y := by
  have h : (slotM j).view.emb y = (slotR j).emb (Shape.reshapeEquiv (squeezes_S1x64x256_S64x256).numel_eq y) := rfl
  rw [h]
  obtain ⟨p, q, rfl⟩ : ∃ (p : Fin 64) (q : Fin 256), y = ix2 p q := ⟨y 0, y 1, eq_ix2 y⟩
  have e := reshapeEquiv_ix2_1ab (a := 64) (b := 256) (squeezes_S1x64x256_S64x256).numel_eq p q
  rw [e]
  funext a
  apply Fin.ext
  rw [Rect.emb_apply]
  fin_cases a
  · show j.val + 1 * 0 = j.val
    omega
  · show 0 + 1 * p.val = p.val
    omega
  · show 0 + 1 * q.val = q.val
    omega

/-- Every element under a view is the element under one of its indices. -/
theorem exists_at2 {b : Dev nD} {i : S256x256.Idx} (h : i ∈ rows b) : ∃ y, at2 b y = i := by
  rw [← outM_set] at h
  obtain ⟨y, -, e⟩ := Finset.mem_map.mp h
  exact ⟨y, (outM_emb b y).symm.trans e⟩
theorem exists_at3 {j : Fin 3} {i : S3x64x256.Idx} (h : i ∈ slot j) : ∃ y, at3 j y = i := by
  rw [← slotM_set] at h
  obtain ⟨y, -, e⟩ := Finset.mem_map.mp h
  exact ⟨y, (slotM_emb j y).symm.trans e⟩

/-! ## What a copy leaves, and what a store leaves -/

/-- Copy `j` of device `c` leaves in slot `j` the sent rows. -/
theorem land_slot (c : Dev nD) (j : Fin 3) (fd : (cc0_scratch1 : Ref sig .tc).ty.Contents (Elt F)) (fs : (cc0_scratch0 : Ref sig .tc).ty.Contents (Elt F))
    (y : S64x256.Idx) : (slotM j).view.write (Elt F) fd ((srcM c j).view.read (Elt F) fs) Finset.univ (at3 j y) = fs (at2 (fwd c j) y) := by
  have h := View.write_emb_of_mem (Val := Elt F) (v := (slotM j).view) fd ((srcM c j).view.read (Elt F) fs) (Finset.mem_univ y)
  rw [slotM_emb] at h
  refine h.trans ?_
  rw [← srcM_emb]
  rfl

/-- A copy of device `c`'s own rows of the result leaves them in the same rows elsewhere. -/
theorem land_rows (c : Dev nD) (fd fs : (cc0_stg5_0 : Ref sig .tc).ty.Contents (Elt F)) (y : S64x256.Idx) :
    (outM c).view.write (Elt F) fd ((outM c).view.read (Elt F) fs) Finset.univ (at2 c y) = fs (at2 c y) := by
  have h := View.write_emb_of_mem (Val := Elt F) (v := (outM c).view) fd ((outM c).view.read (Elt F) fs) (Finset.mem_univ y)
  rw [outM_emb] at h
  refine h.trans ?_
  rw [← outM_emb]
  rfl

/-- The store of device `c`'s finished rows leaves them at those rows. -/
theorem store_rows (c : Dev nD) (f : (cc0_stg5_0 : Ref sig .tc).ty.Contents (Elt F)) (w : S64x256.Idx → Elt F .f32) (y : S64x256.Idx) :
    ((outB : Memref sig .tc .vmem S256x256 .f32).access (ownR c) : View sig .tc _ _ _).write (Elt F) f w Finset.univ (at2 c y) = w y := by
  have h := View.write_emb_of_mem (Val := Elt F) (v := ((outB : Memref sig .tc .vmem S256x256 .f32).access (ownR c) : View sig .tc _ _ _)) f w (Finset.mem_univ y)
  have e : ((outB : Memref sig .tc .vmem S256x256 .f32).access (ownR c) : View sig .tc _ _ _).emb y = at2 c y := ownR_emb c y
  rw [e] at h
  exact h

/-- A load of device `c`'s own rows reads them there. -/
theorem load_rows (c : Dev nD) (f : (cc0_scratch0 : Ref sig .tc).ty.Contents (Elt F)) (y : S64x256.Idx) :
    (srcB : Memref sig .tc .vmem S256x256 .f32).view.readAt (Elt F) (ownR c).toLoadRect f y = f (at2 c y) := by
  rw [← ownR_emb]; rfl

/-- All credits of the copies are one number. -/
theorem credit_src (c : Dev nD) (j : Fin 3) : (srcM c j).view.dmaCredit = (slotM 0).view.dmaCredit := rfl
theorem credit_slot (j : Fin 3) : (slotM j).view.dmaCredit = (slotM 0).view.dmaCredit := rfl
theorem credit_out (c : Dev nD) : (outM c).view.dmaCredit = (slotM 0).view.dmaCredit := by rfl

end Cert.KernelIdeal.Run

end
-- ==== Proof.KernelIdealRun.Protocol.lean ====
/-
The protocol of the kernel on the four devices.

Every device `c` has one barrier cell and, for each of its three exchanges `j`, four transfer cells: the sending and the
receiving side of the exchange of partial sums (kinds 0 and 1), and of the exchange of finished rows (kinds 2 and 3).
All of them have one round.

* Barrier: device `fwd c j` pays duty `j` of `c`'s barrier cell, one unit, and hands over what `c` will write there: slot `j`
  of its landing buffer and `c`'s rows of its result. `c` waits for three.
* Partial sums: copy `j` of `c` takes the rows of `fwd c j` out of `c`'s buffer of partial sums to slot `j` of `fwd c j`.
* Finished rows: copy `j` of `c` takes `c`'s own rows of the result to the same rows of `fwd c j`; the three copies read the
  same rows, each at a share of its own.

The payloads are stated at contents of the whole buffers: the partial sums `part`, what they land as (`land`), and the
finished result `res`, which is one function for all devices.
-/
module

public import proofs.«01_k».proof.Proof.KernelIdealRun.Geometry
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Ring.Trips
public import Idealize.ShloMosaic.Lib.Ring

@[expose] public section

noncomputable section

namespace Cert.KernelIdeal.Run

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- Ghost state: the pipeline's copy of the rounds algebra and the exchange's, whose duties are named by three numbers. -/
abbrev UX : Type := URounds (GSem nD τ sig) (Fin 3)
abbrev UU : Type := UR sig nD τ × UX

local notation "𝕄" => MT nD τ sig Unit (Elt F) ℕ UU ℕ

abbrev EP : Emb (UR sig nD τ) (MT nD τ sig Unit (Elt F) ℕ UU ℕ) := embL
abbrev ER : Emb UX (MT nD τ sig Unit (Elt F) ℕ UU ℕ) := embR

variable (m : (ℓ : Loc nD τ sig) → Buf (Elt F) ℓ) (ρ : Dev nD → PrngReg)

/-- The state at launch: the given memory, every semaphore at zero. -/
def st₀ : MemSt nD τ sig (Elt F) := ⟨m, fun _ => 0, ρ⟩

/-! ## Contents -/

/-- The five operands of device `c` as its kernel finds them staged. -/
def xs (c : Dev nD) : (cc0_stg0_0 : Ref sig .tc).ty.Contents (Elt F) :=
  (win0_0.blk (0 : Fin 1)).view.read (Elt F) (m ((c : Thread nD τ).loc main_arg0))
def rw' (c : Dev nD) : (cc0_stg1_0 : Ref sig .tc).ty.Contents (Elt F) :=
  (win0_1.blk (0 : Fin 1)).view.read (Elt F) (m ((c : Thread nD τ).loc main_arg1))
def ri (c : Dev nD) : (cc0_stg2_0 : Ref sig .tc).ty.Contents (Elt F) :=
  (win0_2.blk (0 : Fin 1)).view.read (Elt F) (m ((c : Thread nD τ).loc main_arg2))
def ew (c : Dev nD) : (cc0_stg3_0 : Ref sig .tc).ty.Contents (Elt F) :=
  (win0_3.blk (0 : Fin 1)).view.read (Elt F) (m ((c : Thread nD τ).loc main_arg3))
def sw (c : Dev nD) : (cc0_stg4_0 : Ref sig .tc).ty.Contents (Elt F) :=
  (win0_4.blk (0 : Fin 1)).view.read (Elt F) (m ((c : Thread nD τ).loc main_arg4))

/-- The word the kernel computes its place in the mesh as. -/
abbrev place (c : Dev nD) : BitVec 32 := Scalar.remsi (Scalar.divsi (Dev.word c) 1#32) 4#32

/-- Device `c`'s partial sums: what its own two experts contribute to every token. -/
def part (c : Dev nD) : (cc0_scratch0 : Ref sig .tc).ty.Contents (Elt F) :=
  k0_pay5 (place c) (k0_pay1 (xs m c)) (k0_pay2 (ri m c)) (k0_pay3 (xs m c) (rw' m c)) (k0_pay4 (xs m c) (rw' m c)) (ew m c)

/-- What lands on device `c`: slot `j` holds the rows of `c` out of the partial sums of the device `j + 1` places before. -/
def land (c : Dev nD) : (cc0_scratch1 : Ref sig .tc).ty.Contents (Elt F) := fun i =>
  part m (bwd c ⟨(i 0).val, (i 0).isLt⟩) (at2 c (ix2 (n0 := 64) (n1 := 256) ⟨(i 1).val, (i 1).isLt⟩ ⟨(i 2).val, (i 2).isLt⟩))

/-- What a load of slot `j` reads on device `c`. -/
abbrev landAt (c : Dev nD) (j : Fin 3) : Vec F S1x64x256 .f32 :=
  (rsB : Memref sig .tc .vmem S3x64x256 .f32).view.readAt (Elt F) (slotR j).toLoadRect (land m c)

/-- Device `c`'s finished rows: its own partial sums, the shared expert's contribution, and the three landed ones, in order. -/
def fin (c : Dev nD) : FVec F S64x256 .f32 :=
  k0_pay7 (k0_pay6 ((xB : Memref sig .tc .vmem S256x128 .f32).view.readAt (Elt F) (xR c).toLoadRect (xs m c))
      ((srcB : Memref sig .tc .vmem S256x256 .f32).view.readAt (Elt F) (ownR c).toLoadRect (part m c)) (sw m c) (landAt m c 0))
    (landAt m c 1) (landAt m c 2)

/-- The result, on every device: the rows of each device as that device finished them. -/
def res : (cc0_stg5_0 : Ref sig .tc).ty.Contents (Elt F) := fun i =>
  fin m ⟨(i 0).val / 64, by have h : (i 0).val < 256 := (i 0).isLt; show (i 0).val / 64 < 4; omega⟩
    (ix2 (n0 := 64) (n1 := 256) ⟨(i 0).val % 64, Nat.mod_lt _ (by decide)⟩ ⟨(i 1).val, (i 1).isLt⟩)

theorem land_at3 (c : Dev nD) (j : Fin 3) (y : S64x256.Idx) : land m c (at3 j y) = part m (bwd c j) (at2 c y) := by
  unfold land
  have e : (ix2 (n0 := 64) (n1 := 256) ⟨(at3 j y 1).val, (at3 j y 1).isLt⟩ ⟨(at3 j y 2).val, (at3 j y 2).isLt⟩) = y := by
    refine Eq.trans ?_ (eq_ix2 (n0 := 64) (n1 := 256) y).symm; rfl
  rw [e]; rfl

theorem res_at2 (c : Dev nD) (y : S64x256.Idx) : res m (at2 c y) = fin m c y := by
  unfold res
  have h0 : (y 0).val < 64 := (y 0).isLt
  have hv : (at2 c y 0).val = 64 * c.val + (y 0).val := rfl
  have e1 : (⟨(at2 c y 0).val / 64, by have h : (at2 c y 0).val < 256 := (at2 c y 0).isLt; show (at2 c y 0).val / 64 < 4; omega⟩ : Dev nD) = c :=
    Fin.ext (by show (at2 c y 0).val / 64 = c.val; omega)
  have e2 : (ix2 (n0 := 64) (n1 := 256) ⟨(at2 c y 0).val % 64, Nat.mod_lt _ (by decide)⟩ ⟨(at2 c y 1).val, (at2 c y 1).isLt⟩) = y := by
    refine Eq.trans ?_ (eq_ix2 (n0 := 64) (n1 := 256) y).symm
    have : (⟨(at2 c y 0).val % 64, Nat.mod_lt _ (by decide)⟩ : Fin 64) = y 0 := Fin.ext (by show (at2 c y 0).val % 64 = (y 0).val; omega)
    rw [this]; rfl
  rw [e1, e2]

/-! ## Pieces held -/

/-- Rows `b` of device `c`'s partial sums; slot `j` of its landing buffer; rows `b` of its result at a share. -/
def srcP (c b : Dev nD) (f : (cc0_scratch0 : Ref sig .tc).ty.Contents (Elt F)) : sProp 𝕄 :=
  ((c : Thread nD τ).loc cc0_scratch0) ↦[rows b]{fullShare} f
def slotP (c : Dev nD) (j : Fin 3) (f : (cc0_scratch1 : Ref sig .tc).ty.Contents (Elt F)) : sProp 𝕄 :=
  ((c : Thread nD τ).loc cc0_scratch1) ↦[slot j]{fullShare} f
def outP (c b : Dev nD) (q : PosShare TreeShare) (f : (cc0_stg5_0 : Ref sig .tc).ty.Contents (Elt F)) : sProp 𝕄 :=
  ((c : Thread nD τ).loc cc0_stg5_0) ↦[rows b]{q} f

instance srcP_storable (c b : Dev nD) (f) : BI.Storable (upEmb : UEmb _ 𝕄) (srcP (F := F) c b f) := by unfold srcP; infer_instance
instance slotP_storable (c : Dev nD) (j : Fin 3) (f) : BI.Storable (upEmb : UEmb _ 𝕄) (slotP (F := F) c j f) := by unfold slotP; infer_instance
instance outP_storable (c b : Dev nD) (q) (f) : BI.Storable (upEmb : UEmb _ 𝕄) (outP (F := F) c b q f) := by unfold outP; infer_instance

/-- The share copy `j` reads the finished rows at. -/
abbrev third (j : Fin 3) : PosShare TreeShare := Ring.shares3 fullShare j

/-! ## Cells -/

/-- The runtime's barrier semaphore. -/
abbrev barS : Sem sig := (SemArray.scalar (sig.barrier 0 rfl) : Sems sig S_).sem

set_option backward.proofsInPublic true in
/-- The transfer semaphore of kind `k` and exchange `j`. -/
def xsem (k : Fin 4) (j : Fin 3) : DmaSem sig := ⟨6 + 3 * k.val + j.val, by have h1 := k.isLt; have h2 := j.isLt; show _ < 18; omega⟩

abbrev bar (c : Dev nD) : GSem nD τ sig := ((c : Thread nD τ), .reg barS)
abbrev cell (c : Dev nD) (k : Fin 4) (j : Fin 3) : GSem nD τ sig := ((c : Thread nD τ), .dma (xsem k j))

/-- The kernel's own semaphores, and all the exchange uses. -/
abbrev osem : Fin 4 × Fin 3 → SemLoc sig := fun kj => .dma (xsem kj.1 kj.2)
abbrev csem : Option (Fin 4 × Fin 3) → SemLoc sig := fun | none => .reg barS | some kj => .dma (xsem kj.1 kj.2)
abbrev kcell (ck : Dev nD × Option (Fin 4 × Fin 3)) : GSem nD τ sig := ((ck.1 : Thread nD τ), csem ck.2)

/-- Which of them a semaphore is: the barrier, a transfer semaphore of a kind and exchange, or one of the pipeline's. -/
def cls : SemLoc sig → Option (Option (Fin 4 × Fin 3))
  | .reg _ => some none
  | .dma q => if 6 ≤ q.val then some (some (⟨(q.val - 6) / 3 % 4, Nat.mod_lt _ (by decide)⟩, ⟨(q.val - 6) % 3, Nat.mod_lt _ (by decide)⟩)) else none

theorem cls_xsem (k : Fin 4) (j : Fin 3) : cls (.dma (xsem k j)) = some (some (k, j)) := by revert k j; decide
theorem cls_bar : cls (.reg barS) = some none := rfl

/-- What one copy credits. -/
abbrev N : ℕ := (slotM 0).view.dmaCredit
theorem N_pos : 0 < N := View.dmaCredit_pos _ (by decide)

/-! ## The schedule -/

/-- What `fwd c j`'s signal hands `c`: the slot and the rows `c` writes there. -/
def barPay (c : Dev nD) (j : Fin 3) : sProp 𝕄 := iprop((∃ f, slotP (fwd c j) j f) ∗ ∃ f, outP (fwd c j) c fullShare f)

/-- What the transfer cell of kind `k` and exchange `j` hands its owner. -/
def xPay (c : Dev nD) (k : Fin 4) (j : Fin 3) : sProp 𝕄 := match k with
  | 0 => srcP c (fwd c j) (part m c)
  | 1 => slotP c j (land m c)
  | 2 => outP c c (third j) (res m)
  | 3 => outP c (bwd c j) fullShare (res m)

def rd : Rounds.Schedule (GSem nD τ sig) (Fin 3) 𝕄 where
  duties g r := if r = 0 ∧ g.1.2 = .tc then (match cls g.2 with | some none => Finset.univ | some (some _) => {0} | none => ∅) else ∅
  unitless _ := False
  amount g _ _ := match cls g.2 with | some none => 1 | _ => N
  payload g _ d := match cls g.2 with | some none => barPay g.1.1 d | some (some kj) => xPay m g.1.1 kj.1 kj.2 | none => iprop(emp)
  amount_pos g _ _ _ := by
    rcases cls g.2 with _ | _ | _
    · exact N_pos
    · exact Nat.one_pos
    · exact N_pos

instance barPay_storable (c : Dev nD) (j : Fin 3) : BI.Storable (upEmb : UEmb _ 𝕄) (barPay (F := F) c j) := by unfold barPay; infer_instance
instance xPay_storable (c : Dev nD) (k : Fin 4) (j : Fin 3) : BI.Storable (upEmb : UEmb _ 𝕄) (xPay m c k j) := by
  unfold xPay; split <;> infer_instance
instance rd_payload_storable (g : GSem nD τ sig) (r : ℕ) (d : Fin 3) :
    BI.Storable (upEmb : UEmb _ 𝕄) ((rd (F := F) m).payload g r d) := by
  show BI.Storable upEmb (match cls g.2 with | some none => barPay g.1.1 d | some (some kj) => xPay m g.1.1 kj.1 kj.2 | none => iprop(emp))
  split <;> infer_instance

section Sched
variable (c : Dev nD) (k : Fin 4) (j d : Fin 3)

theorem duties_bar : (rd m).duties (bar c) 0 = Finset.univ := by dsimp only [rd]; rw [if_pos ⟨rfl, rfl⟩, cls_bar]
theorem duties_cell : (rd m).duties (cell c k j) 0 = {0} := by dsimp only [rd]; rw [if_pos ⟨rfl, rfl⟩, cls_xsem]
theorem duties_later (g : GSem nD τ sig) : ∀ r, 1 ≤ r → (rd (F := F) m).duties g r = ∅ :=
  fun r hr => by dsimp only [rd]; rw [if_neg fun h => by omega]
theorem amount_bar : (rd m).amount (bar c) 0 d = 1 := by dsimp only [rd]; rw [cls_bar]
theorem amount_cell : (rd m).amount (cell c k j) 0 d = N := by dsimp only [rd]; rw [cls_xsem]
theorem expect_bar : (rd m).expect (bar c) 0 = 3 := by
  unfold Schedule.expect Schedule.amountOf
  rw [duties_bar, Finset.sum_congr rfl fun d _ => amount_bar m c d, Finset.sum_const, Finset.card_univ, Fintype.card_fin, smul_eq_mul]
theorem expect_cell : (rd m).expect (cell c k j) 0 = N := by
  unfold Schedule.expect Schedule.amountOf; rw [duties_cell, Finset.sum_singleton, amount_cell]
theorem payload_bar : (rd m).payload (bar c) 0 d = barPay c d := by dsimp only [rd]; rw [cls_bar]
theorem payload_cell : (rd m).payload (cell c k j) 0 d = xPay m c k j := by dsimp only [rd]; rw [cls_xsem]

theorem three (Φ : Fin 3 → sProp 𝕄) : bigSep Finset.univ Φ = iprop(Φ 0 ∗ Φ 1 ∗ Φ 2) := bigSep_univ_eq_bigSepL [0, 1, 2] (by decide) (by decide) Φ
theorem four (Φ : Fin 4 → sProp 𝕄) : bigSep Finset.univ Φ = iprop(Φ 0 ∗ Φ 1 ∗ Φ 2 ∗ Φ 3) := bigSep_univ_eq_bigSepL [0, 1, 2, 3] (by decide) (by decide) Φ

/-- All of a cell's round together. -/
theorem rest_bar : bigSep ((rd (F := F) m).duties (bar c) 0 \ ∅) (fun d => (rd (F := F) m).payload (bar c) 0 d)
    = iprop(barPay c 0 ∗ barPay c 1 ∗ barPay c 2) := by
  rw [Finset.sdiff_empty, duties_bar, three, payload_bar, payload_bar, payload_bar]
theorem rest_cell : bigSep ((rd (F := F) m).duties (cell c k j) 0 \ ∅) (fun d => (rd (F := F) m).payload (cell c k j) 0 d) = xPay m c k j := by
  rw [Finset.sdiff_empty, duties_cell, bigSep_singleton, payload_cell]

end Sched

/-! ## What a device owes, and the levels -/

/-- The single debts of device `c`, the last one to be paid first: the landings of finished rows, the landings of partial
    sums, the signals. -/
def debt (c : Dev nD) : ℕ → CellTallies nD τ sig Unit
  | 0 => tallyAt (cell (fwd c 2) 3 2) () N
  | 1 => tallyAt (cell (fwd c 1) 3 1) () N
  | 2 => tallyAt (cell (fwd c 0) 3 0) () N
  | 3 => tallyAt (cell (fwd c 2) 1 2) () N
  | 4 => tallyAt (cell (fwd c 1) 1 1) () N
  | 5 => tallyAt (cell (fwd c 0) 1 0) () N
  | 6 => tallyAt (bar (fwd c 2)) () 1
  | 7 => tallyAt (bar (fwd c 1)) () 1
  | _ => tallyAt (bar (fwd c 0)) () 1

/-- What device `c` still owes when `n` debts are left; all nine at launch. -/
def owe (c : Dev nD) : ℕ → CellTallies nD τ sig Unit
  | 0 => 0
  | n + 1 => owe c n + debt c n

def L (g : GSem nD τ sig) : Finset Unit := if g.1.2 = .tc then {()} else ∅
/-- The order of the waits: the pipeline's and the sending cells, the barrier, landings of partial sums, of finished rows. -/
def lv (g : GSem nD τ sig) (_ : Unit) : ℕ := match cls g.2 with
  | some none => 1
  | some (some (1, _)) => 2
  | some (some (3, _)) => 3
  | _ => 0

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) : lv (bar c) () = 1 := rfl
theorem lv_land (c : Dev nD) (j : Fin 3) : lv (cell c 1 j) () = 2 := by unfold lv; rw [cls_xsem]; rfl
theorem lv_done (c : Dev nD) (j : Fin 3) : lv (cell c 3 j) () = 3 := by unfold lv; rw [cls_xsem]; rfl
theorem lv_sent (c : Dev nD) (j : Fin 3) : lv (cell c 2 j) () = 0 := by unfold lv; rw [cls_xsem]; rfl

/-- Everything owed sits above level `n`. -/
def Above (n : ℕ) (O : CellTallies nD τ sig Unit) : Prop := ∀ g u, 0 < O g u → () ∈ L g ∧ n < lv g u

theorem Above.zero (n : ℕ) : Above n 0 := fun g u h => absurd h (Nat.lt_irrefl 0)
theorem Above.add {n : ℕ} {O : CellTallies nD τ sig Unit} (h : Above n O) {c : Dev nD} {sm : SemLoc sig} {k : ℕ}
    (hl : n < lv ((c : Thread nD τ), sm) ()) : Above n (O + tallyAt ((c : Thread nD τ), sm) () k) := fun g u hg => by
  rw [Pi.add_apply, Finsupp.add_apply, tallyAt_apply] at hg
  by_cases e : g = ((c : Thread nD τ), sm) ∧ u = ()
  · rw [e.1, L_tc]; exact ⟨Finset.mem_singleton_self _, hl⟩
  · rw [if_neg e, Nat.add_zero] at hg; exact h g u hg

theorem above_owe3 (c : Dev nD) (n : ℕ) (hn : n < 3) : Above n (owe c 3) := by
  have l (j) : n < lv (cell (fwd c j) 3 j) () := by rw [lv_done]; exact hn
  exact (((Above.zero n).add (k := N) (l 2)).add (k := N) (l 1)).add (k := N) (l 0)
theorem above_owe6 (c : Dev nD) (n : ℕ) (hn : n < 2) : Above n (owe c 6) := by
  have l (j) : n < lv (cell (fwd c j) 1 j) () := by rw [lv_land]; exact hn
  exact (((above_owe3 c n (by omega)).add (k := N) (l 2)).add (k := N) (l 1)).add (k := N) (l 0)
theorem above_owe9 (c : Dev nD) : Above 0 (owe c 9) := by
  have l (j) : 0 < lv (bar (fwd c j)) () := by rw [lv_bar]; exact Nat.one_pos
  exact (((above_owe6 c 0 (by decide)).add (k := 1) (l 2)).add (k := 1) (l 1)).add (k := 1) (l 0)

/-- A wait on a cell of level at most `n` while everything owed sits above `n` is in order. -/
theorem mayWait (c : Dev nD) (sm : SemLoc sig) (O : CellTallies nD τ sig Unit) (n : ℕ) (hO : Above n O) (hl : lv ((c : Thread nD τ), sm) () ≤ n) :
    (levAts L lv : sProp 𝕄) ⊢ MayWait (c : Thread nD τ) sm () O :=
  MayOwe.of_cut (L := L) (lev := lv) n (fun p hp => by rw [Finset.mem_singleton.mp hp, L_tc]; exact Finset.mem_singleton_self _)
    (fun g u hg => (hO g u hg).1)
    (fun p hp => by rw [Finset.mem_singleton.mp hp]; exact hl)
    (fun g u hg => (hO g u hg).2)

theorem mayWait_stage (c : Dev nD) (q : DmaSem sig) (hq : cls (.dma q) = none) (O : CellTallies nD τ sig Unit) (hO : O = owe c 9 ∨ O = 0) :
    (levAts L lv : sProp 𝕄) ⊢ MayWait (c : Thread nD τ) (.dma q) () O := by
  refine mayWait c (.dma q) O 0 ?_ (by unfold lv; rw [hq])
  rcases hO with rfl | rfl
  · exact above_owe9 c
  · exact Above.zero 0

/-! ## The proof data of the pipeline -/

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

/-- Every cell's invariant at the names the launch gave, and that its round 0 is reached. -/
def records (K : Dev nD × Option (Fin 4 × Fin 3) → ℕ) : sProp 𝕄 :=
  iprop((bigSep Finset.univ fun ck : Dev nD × Option (Fin 4 × Fin 3) => cellInv ER (rd m) (K ck) (kcell ck))
    ∗ bigSep Finset.univ fun ck : Dev nD × Option (Fin 4 × Fin 3) => reached ER (kcell ck) 0)

instance records_persistent (K : Dev nD × Option (Fin 4 × Fin 3) → ℕ) : BI.Persistent (records m K) := by unfold records; infer_instance

variable (K : Dev nD × Option (Fin 4 × Fin 3) → ℕ)

theorem inv_cell (c : Dev nD) (k : Fin 4) (j : Fin 3) : records m K ⊢ cellInv ER (rd m) (K (c, some (k, j))) (cell c k j) := by
  exact sep_elim_left.trans (bigSep_elim (Φ := fun ck : Dev nD × Option (Fin 4 × Fin 3) => cellInv ER (rd m) (K ck) (kcell ck)) (Finset.mem_univ (c, some (k, j))))
theorem inv_bar (c : Dev nD) : records m K ⊢ cellInv ER (rd m) (K (c, none)) (bar c) := by
  exact sep_elim_left.trans (bigSep_elim (Φ := fun ck : Dev nD × Option (Fin 4 × Fin 3) => cellInv ER (rd m) (K ck) (kcell ck)) (Finset.mem_univ (c, none)))
theorem reached_cell (c : Dev nD) (k : Fin 4) (j : Fin 3) : records m K ⊢ reached ER (cell c k j) 0 := by
  exact sep_elim_right.trans (bigSep_elim (Φ := fun ck : Dev nD × Option (Fin 4 × Fin 3) => (reached ER (kcell ck) 0 : sProp 𝕄)) (Finset.mem_univ (c, some (k, j))))
theorem reached_bar (c : Dev nD) : records m K ⊢ reached ER (bar c) 0 := by
  exact sep_elim_right.trans (bigSep_elim (Φ := fun ck : Dev nD × Option (Fin 4 × Fin 3) => (reached ER (kcell ck) 0 : sProp 𝕄)) (Finset.mem_univ (c, none)))

/-- The tokens of the duties device `c` pays. -/
def payToks (c : Dev nD) : sProp 𝕄 :=
  iprop((bigSep Finset.univ fun k : Fin 3 => dutyTok ER (bar (fwd c k)) 0 (rv k))
    ∗ (bigSep Finset.univ fun j : Fin 3 => dutyTok ER (cell c 0 j) 0 0)
    ∗ (bigSep Finset.univ fun j : Fin 3 => dutyTok ER (cell (fwd c j) 1 j) 0 0)
    ∗ (bigSep Finset.univ fun j : Fin 3 => dutyTok ER (cell c 2 j) 0 0)
    ∗ (bigSep Finset.univ fun j : Fin 3 => dutyTok ER (cell (fwd c j) 3 j) 0 0))

/-- Device `c`'s positions at its own cells. -/
def posns (c : Dev nD) : sProp 𝕄 :=
  iprop(atPos ER (bar c) 0 ∅ 0 ∗ bigSep Finset.univ fun k : Fin 4 => bigSep Finset.univ fun j : Fin 3 => atPos ER (cell c k j) 0 ∅ 0)

def ghost (c : Dev nD) : sProp 𝕄 := iprop(records m K ∗ posns c ∗ payToks c)

/-- What device `c` may wait for from launch on: three signals and the six landings. -/
def credits (c : Dev nD) : sProp 𝕄 :=
  iprop(cred (tallyAt (bar c) () 3) ∗ (bigSep Finset.univ fun j : Fin 3 => cred (tallyAt (cell c 1 j) () N))
    ∗ bigSep Finset.univ fun j : Fin 3 => cred (tallyAt (cell c 3 j) () N))

def start (c : Dev nD) : sProp 𝕄 := iprop((∃ K, ghost m K c) ∗ credits c ∗ levAts L lv)

/-- The two scratch buffers whole at some contents. -/
def scratch (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f))

/-- All thirteen semaphores back at zero. -/
def drained (c : Dev nD) : sProp 𝕄 :=
  iprop(semVal (bar c) 0 ∗ bigSep Finset.univ fun k : Fin 4 => bigSep Finset.univ fun j : Fin 3 => semVal (cell c k j) 0)

def Φ₀ (c : Dev nD) : sProp 𝕄 := iprop(start m c ∗ scratch c)
def Φ₁ (c : Dev nD) : sProp 𝕄 := iprop(scratch c ∗ drained c)

def dats (_ : Fin 1) (c : Dev nD) : Dat τ (Elt F) Unit ℕ UU ℕ cfg0 c where
  A w := (st₀ m ρ).mem ((cfg0.win w).arr.view.loc (c : Thread nD τ))
  after w _ := match w with
    | ⟨0, _⟩ => xs m c
    | ⟨1, _⟩ => rw' m c
    | ⟨2, _⟩ => ri m c
    | ⟨3, _⟩ => ew m c
    | ⟨4, _⟩ => sw m c
    | ⟨5, _⟩ => res m
  Φ t := match t with
    | ⟨0, _⟩ => Φ₀ m c
    | ⟨_ + 1, _⟩ => Φ₁ c
  q _ := fullShare
  owed t := match t with
    | ⟨0, _⟩ => owe c 9
    | ⟨_ + 1, _⟩ => 0

abbrev 𝒱₀ : Variants := Variants.none

end Cert.KernelIdeal.Run

end
-- ==== Proof.KernelIdealRun.Rules.lean ====
/-
One rule per kind of exchange step, at the protocol's cells: the three signals, the wait on the barrier, the two kinds of
copies, and the wait on a transfer cell. What a device is recorded to have waited for is kept under an existential.
-/
module

public import proofs.«01_k».proof.Proof.KernelIdealRun.Protocol

@[expose] public section

noncomputable section

namespace Cert.KernelIdeal.Run

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × Option (Fin 4 × Fin 3) → ℕ)

/-- Device `c` owes `O`, whatever it has waited for. -/
def owed (c : Dev nD) (O : CellTallies nD τ sig Unit) : sProp 𝕄 := iprop(∃ W, owes (c : Thread nD τ) O W)

/-! ## The pieces landed -/

theorem slot_landed (c : Dev nD) (j : Fin 3) (fd : (cc0_scratch1 : Ref sig .tc).ty.Contents (Elt F)) :
    ((slotM j).view.loc (fwd c j : Thread nD τ) ↦[(slotM j).view.set]{fullShare}
        ((slotM j).view.write (Elt F) fd ((srcM c j).view.read (Elt F) (part m c)) Finset.univ) : sProp 𝕄)
      = slotP (fwd c j) j (land m (fwd c j)) := by
  unfold slotP
  rw [slotM_set]
  refine pointsTo_congr fun i hi => ?_
  obtain ⟨y, rfl⟩ := exists_at3 hi
  rw [land_slot, land_at3, bwd_fwd]

theorem rows_landed (c d : Dev nD) (fd : (cc0_stg5_0 : Ref sig .tc).ty.Contents (Elt F)) :
    ((outM c).view.loc (d : Thread nD τ) ↦[(outM c).view.set]{fullShare}
        ((outM c).view.write (Elt F) fd ((outM c).view.read (Elt F) (res m)) Finset.univ) : sProp 𝕄)
      = outP d c fullShare (res m) := by
  unfold outP
  rw [outM_set]
  refine pointsTo_congr fun i hi => ?_
  obtain ⟨y, rfl⟩ := exists_at2 hi
  rw [land_rows]

theorem rows_stored (c : Dev nD) (f : (cc0_stg5_0 : Ref sig .tc).ty.Contents (Elt F)) :
    (outP c c fullShare (((outB : Memref sig .tc .vmem S256x256 .f32).access (ownR c) : View sig .tc _ _ _).write (Elt F) f (fin m c) Finset.univ) : sProp 𝕄)
      = outP c c fullShare (res m) := by
  unfold outP
  refine pointsTo_congr fun i hi => ?_
  obtain ⟨y, rfl⟩ := exists_at2 hi
  rw [store_rows, res_at2]

/-! ## The rules -/

/-- Signal `k` of device `c`: it pays duty `rv k` of `fwd c k`'s barrier with its own slot `rv k` and its rows of `fwd c k`. -/
theorem wp_sig (c n : Dev nD) (k : Fin 3) (hn : n = fwd c k) {sem : Sem sig} (hs : sem = barS) {k' : ℕ} (hk : k' = 1)
    {O₀ : CellTallies nD τ sig Unit} (O : CellTallies nD τ sig Unit) (hO : O₀ = O + tallyAt (bar (fwd c k)) () 1)
    {α : Type} {Q : α → sProp 𝕄} {kk : PUnit → Prog (TpuEff nD τ sig (Elt F) Λ₀ .tc) α} :
    iprop(records m K ∗ owed c O₀ ∗ dutyTok ER (bar (fwd c k)) 0 (rv k) ∗ (∃ f, slotP c (rv k) f) ∗ (∃ f, outP c (fwd c k) fullShare f))
      ⊢ iprop((owed c O -∗ wp frame (wpE (defs₀ (F := F)) 𝒱₀ (c : Thread nD τ) none) Set.univ (kk ⟨⟩) Q)
          -∗ wp frame (wpE (defs₀ (F := F)) 𝒱₀ (c : Thread nD τ) none) Set.univ (.op (.semSignal (n : Thread nD τ) sem k') kk) Q) := by
  subst hn hs hk
  unfold owed
  iintro ⟨#HR, ⟨%W, HO⟩, Ht, Hs, Ho⟩ Hk
  iapply (Rounds.wp_signal 𝒱₀ ER (rd m) (c : Thread nD τ) none (dst := (fwd c k : Thread nD τ)) (κ := K (fwd c k, none))
      (d := rv k) (by rw [duties_bar]; exact Finset.mem_univ _) (amount_bar m (fwd c k) (rv k)) () O hO (W := W))
    $$ [HO Ht Hs Ho]
  · isplitr; · iapply (inv_bar m K (fwd c k)); iexact HR
    isplitl [HO]; · iexact HO
    isplitl [Ht]; · iexact Ht
    isplitl [Hs Ho]
    · rw [payload_bar]; unfold barPay; rw [fwd_fwd_rv]
      isplitl [Hs]; · iexact Hs
      iexact Ho
    iapply (reached_bar m K (fwd c k)); iexact HR
  iintro HO
  iapply Hk; iexists W; iexact HO

/-- The wait for the three signals, owing what sits above the barrier: every peer's slot and rows come with it. -/
theorem wp_barwait (c : Dev nD) {sem : Sem sig} (hs : sem = barS) {k' : ℕ} (hk : k' = 3)
    (O : CellTallies nD τ sig Unit) (hO : Above 1 O)
    {α : Type} {Q : α → sProp 𝕄} {kk : PUnit → Prog (TpuEff nD τ sig (Elt F) Λ₀ .tc) α} :
    iprop(records m K ∗ cred (tallyAt (bar c) () 3) ∗ owed c O ∗ levAts L lv ∗ atPos ER (bar c) 0 ∅ 0)
      ⊢ iprop(((owed c O ∗ semVal (bar c) 0 ∗ barPay c 0 ∗ barPay c 1 ∗ barPay c 2)
            -∗ wp frame (wpE (defs₀ (F := F)) 𝒱₀ (c : Thread nD τ) none) Set.univ (kk ⟨⟩) Q)
          -∗ wp frame (wpE (defs₀ (F := F)) 𝒱₀ (c : Thread nD τ) none) Set.univ (.op (.semWait sem k') kk) Q) := by
  subst hs hk
  unfold owed
  iintro ⟨#HR, Hc, ⟨%W, HO⟩, #Hl, Hat⟩ Hk
  iapply (Rounds.wp_wait_rest_token 𝒱₀ ER (rd m) (c : Thread nD τ) none (κ := K (c, none))
      (wpE_semWait_eq 𝒱₀ (c : Thread nD τ) none Set.univ) (Set.mem_univ _) () (O := O) (W := W) (R := 0) (m := 0) (T := ∅)
      (by rw [expect_bar])) $$ [Hc HO Hat]
  · isplitr; · iapply (inv_bar m K c); iexact HR
    isplitl [Hc]; · iexact Hc
    isplitl [HO]; · iexact HO
    isplitr; · iapply (mayWait c (.reg barS) O 1 hO (by rw [lv_bar])); iexact Hl
    iexact Hat
  iintro ⟨HO, Hat, -, Hp⟩
  ihave Hp := (Entails.of_eq (rest_bar m c)) $$ Hp
  imod (Rounds.cell_close ER (rd m) (Set.mem_univ (K (c, none))) (fun h => h) (R := 0 + 1) (duties_later m (bar c))) $$ [Hat] with Hz
  · isplitr; · iapply (inv_bar m K c); iexact HR
    iexact Hat
  iapply Hk
  isplitl [HO]; · iexists _; iexact HO
  isplitl [Hz]; · iexact Hz
  iexact Hp

/-- The wait on a transfer cell of device `c`, owing what sits above it: its counter is back at zero and the payload comes. -/
theorem wp_xwait (c : Dev nD) (k : Fin 4) (j : Fin 3) {sem : DmaSem sig} (hs : sem = xsem k j)
    {src dst : Memref sig .tc .vmem S64x256 .f32} {h1 h2}
    (hN : dst.view.dmaCredit = N)
    (O : CellTallies nD τ sig Unit) (n : ℕ) (hO : Above n O) (hl : lv (cell c k j) () ≤ n)
    {α : Type} {Q : α → sProp 𝕄} {kk : PUnit → Prog (TpuEff nD τ sig (Elt F) Λ₀ .tc) α} :
    iprop(records m K ∗ cred (tallyAt (cell c k j) () N) ∗ owed c O ∗ levAts L lv ∗ atPos ER (cell c k j) 0 ∅ 0)
      ⊢ iprop(((owed c O ∗ semVal (cell c k j) 0 ∗ xPay m c k j)
            -∗ wp frame (wpE (defs₀ (F := F)) 𝒱₀ (c : Thread nD τ) none) Set.univ (kk ⟨⟩) Q)
          -∗ wp frame (wpE (defs₀ (F := F)) 𝒱₀ (c : Thread nD τ) none) Set.univ (.op (.waitDma2 sem src dst h1 h2) kk) Q) := by
  subst hs
  unfold owed
  iintro ⟨#HR, Hc, ⟨%W, HO⟩, #Hl, Hat⟩ Hk
  iapply (Rounds.wp_wait_rest_token 𝒱₀ ER (rd m) (c : Thread nD τ) none (κ := K (c, some (k, j)))
      (fun Z => (wpE_waitDma2_eq 𝒱₀ (c : Thread nD τ) none Set.univ Z).trans (by rw [hN])) (Set.mem_univ _) () (O := O) (W := W) (R := 0) (m := 0) (T := ∅)
      (by rw [Nat.zero_add, expect_cell])) $$ [Hc HO Hat]
  · isplitr; · iapply (inv_cell m K c k j); iexact HR
    isplitl [Hc]; · iexact Hc
    isplitl [HO]; · iexact HO
    isplitr; · iapply (mayWait c (.dma (xsem k j)) O n hO hl); iexact Hl
    iexact Hat
  iintro ⟨HO, Hat, -, Hp⟩
  ihave Hp := (Entails.of_eq (rest_cell m c k j)) $$ Hp
  imod (Rounds.cell_close ER (rd m) (Set.mem_univ (K (c, some (k, j)))) (fun h => h) (R := 0 + 1) (duties_later m (cell c k j))) $$ [Hat] with Hz
  · isplitr; · iapply (inv_cell m K c k j); iexact HR
    iexact Hat
  iapply Hk
  isplitl [HO]; · iexists _; iexact HO
  isplitl [Hz]; · iexact Hz
  iexact Hp

/-- Copy `j` of partial sums: device `c` gives its rows of `fwd c j` and the slot there, and may wait for the sending side. -/
theorem wp_send_part (c n : Dev nD) (j : Fin 3) (hn : n = fwd c j) {sS sR : DmaSem sig} (hS : sS = xsem 0 j) (hR : sR = xsem 1 j)
    {src dst : Memref sig .tc .vmem S64x256 .f32} (hsr : src = srcM c j) (hds : dst = slotM j) {hsc h1 h2 h3}
    {O₀ : CellTallies nD τ sig Unit} (O : CellTallies nD τ sig Unit) (hO : O₀ = O + tallyAt (cell (fwd c j) 1 j) () N)
    {α : Type} {Q : α → sProp 𝕄} {kk : PUnit → Prog (TpuEff nD τ sig (Elt F) Λ₀ .tc) α} :
    iprop(records m K ∗ srcP c (fwd c j) (part m c) ∗ (∃ f, slotP (fwd c j) j f) ∗ owed c O₀
        ∗ dutyTok ER (cell c 0 j) 0 0 ∗ dutyTok ER (cell (fwd c j) 1 j) 0 0)
      ⊢ iprop(((cred (tallyAt (cell c 0 j) () N) ∗ owed c O)
            -∗ wp frame (wpE (defs₀ (F := F)) 𝒱₀ (c : Thread nD τ) none) Set.univ (kk ⟨⟩) Q)
          -∗ wp frame (wpE (defs₀ (F := F)) 𝒱₀ (c : Thread nD τ) none) Set.univ
            (.op (.enqueueDma src (.remote (Dev.tc n : Thread nD τ) dst (.dma sS) hsc) (.dma sR) h1 h2 h3) kk) Q) := by
  subst hn hS hR hsr hds
  unfold owed
  iintro ⟨#HR, Hs, ⟨%fd, Hd⟩, ⟨%W, HO⟩, Ht1, Ht2⟩ Hk
  iapply (Rounds.wp_send_pointsTo 𝒱₀ ER (rd m) (c : Thread nD τ) none (src := srcM c j) (dst := slotM j) (c' := (fwd c j : Thread nD τ)) (sS := .dma (xsem 0 j)) (sem := .dma (xsem 1 j)) (κ₁ := K (c, some (0, j))) (κ₂ := K (fwd c j, some (1, j)))
    (r₁ := 0) (r₂ := 0) (d₁ := 0) (d₂ := 0) (q := fullShare) (fs := part m c) (fd := fd)
    (by rw [duties_cell]; exact Finset.mem_singleton_self _) (by rw [duties_cell]; exact Finset.mem_singleton_self _)
    () () N (credit_slot j) (amount_cell m c 0 j 0) (amount_cell m (fwd c j) 1 j 0) O hO (W := W)
    (by rw [payload_cell, srcM_set]; exact BI.Entails.refl _)
    (by rw [payload_cell, slot_landed]; exact BI.Entails.refl _)) $$ [Hs Hd HO Ht1 Ht2]
  · isplitr; · iapply (inv_cell m K c 0 j); iexact HR
    isplitr; · iapply (inv_cell m K (fwd c j) 1 j); iexact HR
    isplitl [Hs]; · rw [srcM_set]; unfold srcP; iexact Hs
    isplitl [Hd]; · rw [slotM_set]; unfold slotP; iexact Hd
    isplitl [HO]; · iexact HO
    isplitl [Ht1]; · iexact Ht1
    isplitr; · iapply (reached_cell m K c 0 j); iexact HR
    isplitl [Ht2]; · iexact Ht2
    iapply (reached_cell m K (fwd c j) 1 j); iexact HR
  iintro ⟨Hc, HO⟩
  iapply Hk
  isplitl [Hc]; · iexact Hc
  iexists W; iexact HO

/-- Copy `j` of finished rows: device `c` reads its rows at one share of three and gives the same rows of `fwd c j`. -/
theorem wp_send_done (c n : Dev nD) (j : Fin 3) (hn : n = fwd c j) {sS sR : DmaSem sig} (hS : sS = xsem 2 j) (hR : sR = xsem 3 j)
    {src dst : Memref sig .tc .vmem S64x256 .f32} (hsr : src = outM c) (hds : dst = outM c) {hsc h1 h2 h3}
    {O₀ : CellTallies nD τ sig Unit} (O : CellTallies nD τ sig Unit) (hO : O₀ = O + tallyAt (cell (fwd c j) 3 j) () N)
    {α : Type} {Q : α → sProp 𝕄} {kk : PUnit → Prog (TpuEff nD τ sig (Elt F) Λ₀ .tc) α} :
    iprop(records m K ∗ outP c c (third j) (res m) ∗ (∃ f, outP (fwd c j) c fullShare f) ∗ owed c O₀
        ∗ dutyTok ER (cell c 2 j) 0 0 ∗ dutyTok ER (cell (fwd c j) 3 j) 0 0)
      ⊢ iprop(((cred (tallyAt (cell c 2 j) () N) ∗ owed c O)
            -∗ wp frame (wpE (defs₀ (F := F)) 𝒱₀ (c : Thread nD τ) none) Set.univ (kk ⟨⟩) Q)
          -∗ wp frame (wpE (defs₀ (F := F)) 𝒱₀ (c : Thread nD τ) none) Set.univ
            (.op (.enqueueDma src (.remote (Dev.tc n : Thread nD τ) dst (.dma sS) hsc) (.dma sR) h1 h2 h3) kk) Q) := by
  subst hn hS hR hsr hds
  unfold owed
  iintro ⟨#HR, Hs, ⟨%fd, Hd⟩, ⟨%W, HO⟩, Ht1, Ht2⟩ Hk
  iapply (Rounds.wp_send_pointsTo 𝒱₀ ER (rd m) (c : Thread nD τ) none (src := outM c) (dst := outM c) (c' := (fwd c j : Thread nD τ)) (sS := .dma (xsem 2 j)) (sem := .dma (xsem 3 j)) (κ₁ := K (c, some (2, j))) (κ₂ := K (fwd c j, some (3, j)))
    (r₁ := 0) (r₂ := 0) (d₁ := 0) (d₂ := 0) (q := third j) (fs := res m) (fd := fd)
    (by rw [duties_cell]; exact Finset.mem_singleton_self _) (by rw [duties_cell]; exact Finset.mem_singleton_self _)
    () () N (credit_out c) (amount_cell m c 2 j 0) (amount_cell m (fwd c j) 3 j 0) O hO (W := W)
    (by rw [payload_cell, outM_set]; exact BI.Entails.refl _)
    (by rw [payload_cell, rows_landed]; show _ ⊢ outP (fwd c j) (bwd (fwd c j) j) fullShare (res m); rw [bwd_fwd])) $$ [Hs Hd HO Ht1 Ht2]
  · isplitr; · iapply (inv_cell m K c 2 j); iexact HR
    isplitr; · iapply (inv_cell m K (fwd c j) 3 j); iexact HR
    isplitl [Hs]; · rw [outM_set]; unfold outP; iexact Hs
    isplitl [Hd]; · rw [outM_set]; unfold outP; iexact Hd
    isplitl [HO]; · iexact HO
    isplitl [Ht1]; · iexact Ht1
    isplitr; · iapply (reached_cell m K c 2 j); iexact HR
    isplitl [Ht2]; · iexact Ht2
    iapply (reached_cell m K (fwd c j) 3 j); iexact HR
  iintro ⟨Hc, HO⟩
  iapply Hk
  isplitl [Hc]; · iexact Hc
  iexists W; iexact HO

/-! ## Whole buffers by their pieces -/

theorem devs_fwd (c : Dev nD) (Φ : Dev nD → sProp 𝕄) :
    bigSep Finset.univ Φ = iprop(Φ c ∗ Φ (fwd c 0) ∗ Φ (fwd c 1) ∗ Φ (fwd c 2)) :=
  bigSep_univ_eq_bigSepL [c, fwd c 0, fwd c 1, fwd c 2] (by revert c; decide) (by revert c; decide) Φ
theorem devs_bwd (c : Dev nD) (Φ : Dev nD → sProp 𝕄) :
    bigSep Finset.univ Φ = iprop(Φ c ∗ Φ (bwd c 0) ∗ Φ (bwd c 1) ∗ Φ (bwd c 2)) :=
  bigSep_univ_eq_bigSepL [c, bwd c 0, bwd c 1, bwd c 2] (by revert c; decide) (by revert c; decide) Φ

/-- The partial sums whole are their own rows and those of the three devices after. -/
theorem src_split (c : Dev nD) (f : (cc0_scratch0 : Ref sig .tc).ty.Contents (Elt F)) :
    (((c : Thread nD τ).loc cc0_scratch0 ↦{fullShare} f) : sProp 𝕄)
      = iprop(srcP c c f ∗ srcP c (fwd c 0) f ∗ srcP c (fwd c 1) f ∗ srcP c (fwd c 2) f) :=
  (Ring.pointsTo_blocks (ℓ := (c : Thread nD τ).loc cc0_scratch0) rows rows_disjoint rows_cover f).trans (devs_fwd c _)
/-- The result whole is its own rows and those of the three devices after, -/
theorem out_split (c : Dev nD) (f : (cc0_stg5_0 : Ref sig .tc).ty.Contents (Elt F)) :
    (((c : Thread nD τ).loc cc0_stg5_0 ↦{fullShare} f) : sProp 𝕄)
      = iprop(outP c c fullShare f ∗ outP c (fwd c 0) fullShare f ∗ outP c (fwd c 1) fullShare f ∗ outP c (fwd c 2) fullShare f) :=
  (Ring.pointsTo_blocks (ℓ := (c : Thread nD τ).loc cc0_stg5_0) rows rows_disjoint rows_cover f).trans (devs_fwd c _)
/-- or of the three before. -/
theorem out_join (c : Dev nD) (f : (cc0_stg5_0 : Ref sig .tc).ty.Contents (Elt F)) :
    (((c : Thread nD τ).loc cc0_stg5_0 ↦{fullShare} f) : sProp 𝕄)
      = iprop(outP c c fullShare f ∗ outP c (bwd c 0) fullShare f ∗ outP c (bwd c 1) fullShare f ∗ outP c (bwd c 2) fullShare f) :=
  (Ring.pointsTo_blocks (ℓ := (c : Thread nD τ).loc cc0_stg5_0) rows rows_disjoint rows_cover f).trans (devs_bwd c _)
/-- The landing buffer whole is its three slots. -/
theorem slot_split (c : Dev nD) (f : (cc0_scratch1 : Ref sig .tc).ty.Contents (Elt F)) :
    (((c : Thread nD τ).loc cc0_scratch1 ↦{fullShare} f) : sProp 𝕄) = iprop(slotP c 0 f ∗ slotP c 1 f ∗ slotP c 2 f) :=
  (Ring.pointsTo_blocks (ℓ := (c : Thread nD τ).loc cc0_scratch1) slot slot_disjoint slot_cover f).trans (three _)
/-- Rows of the result are three shares of themselves. -/
theorem out_thirds (c b : Dev nD) (f : (cc0_stg5_0 : Ref sig .tc).ty.Contents (Elt F)) :
    (outP c b fullShare f : sProp 𝕄) ⊣⊢ iprop(outP c b (third 0) f ∗ outP c b (third 1) f ∗ outP c b (third 2) f) :=
  Ring.pointsTo_thirds (ℓ := (c : Thread nD τ).loc cc0_stg5_0) (I := rows b) fullShare f

end Cert.KernelIdeal.Run

end
-- ==== Proof.KernelIdealRun.Body.lean ====
/-
The body of the kernel on one device, step by step, from what the launch leaves it to the finished result.
-/
module

public import proofs.«01_k».proof.Proof.KernelIdealRun.Rules

@[expose] public section

noncomputable section

namespace Cert.KernelIdeal.Run

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg) (K : Dev nD × Option (Fin 4 × Fin 3) → ℕ)

/-- A staging buffer of device `c` whole at contents `X`. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄) = stg c b X := by
  unfold owns; simp only [Memref.view_whole, View.read_whole, View.set_whole]

/-! ## Whole loads and the whole store -/

theorem off2 : (![0, 0] : Fin 2 → Nat) = fun _ => 0 := funext fun a => by fin_cases a <;> rfl
theorem off3 : (![0, 0, 0] : Fin 3 → Nat) = fun _ => 0 := funext fun a => by fin_cases a <;> rfl

theorem ld0 (f : (cc0_stg0_0 : Ref sig .tc).ty.Contents (Elt F)) : (Memref.whole cc0_stg0_0 : Memref sig .tc .vmem S256x128 .f32).view.readAt (Elt F)
    (Rect.unit (s := S256x128) ![0, 0] S256x128.size inb_S256x128_S256x128_0_0).toLoadRect f = f := Memref.readAt_unit_zero (Elt F) cc0_stg0_0 off2 _ f
theorem ld1 (f : (cc0_stg1_0 : Ref sig .tc).ty.Contents (Elt F)) : (Memref.whole cc0_stg1_0 : Memref sig .tc .vmem S128x8 .f32).view.readAt (Elt F)
    (Rect.unit (s := S128x8) ![0, 0] S128x8.size inb_S128x8_S128x8_0_0).toLoadRect f = f := Memref.readAt_unit_zero (Elt F) cc0_stg1_0 off2 _ f
theorem ld2 (f : (cc0_stg2_0 : Ref sig .tc).ty.Contents (Elt F)) : (Memref.whole cc0_stg2_0 : Memref sig .tc .vmem S256x1 .i32).view.readAt (Elt F)
    (Rect.unit (s := S256x1) ![0, 0] S256x1.size inb_S256x1_S256x1_0_0).toLoadRect f = f := Memref.readAt_unit_zero (Elt F) cc0_stg2_0 off2 _ f
theorem ld3 (f : (cc0_stg3_0 : Ref sig .tc).ty.Contents (Elt F)) : (Memref.whole cc0_stg3_0 : Memref sig .tc .vmem S2x128x256 .f32).view.readAt (Elt F)
    (Rect.unit (s := S2x128x256) ![0, 0, 0] S2x128x256.size inb_S2x128x256_S2x128x256_0_0_0).toLoadRect f = f := Memref.readAt_unit_zero (Elt F) cc0_stg3_0 off3 _ f
theorem ld4 (f : (cc0_stg4_0 : Ref sig .tc).ty.Contents (Elt F)) : (Memref.whole cc0_stg4_0 : Memref sig .tc .vmem S128x256 .f32).view.readAt (Elt F)
    (Rect.unit (s := S128x256) ![0, 0] S128x256.size inb_S128x256_S128x256_0_0).toLoadRect f = f := Memref.readAt_unit_zero (Elt F) cc0_stg4_0 off2 _ f
theorem st6 (f w : (cc0_scratch0 : Ref sig .tc).ty.Contents (Elt F)) : ((srcB : Memref sig .tc .vmem S256x256 .f32).access
    (Rect.unit (s := S256x256) ![0, 0] S256x256.size inb_S256x256_S256x256_0_0) : View sig .tc _ _ _).write (Elt F) f w Finset.univ = w :=
  Memref.write_access_unit_zero_univ (Elt F) cc0_scratch0 off2 _ f w

/-- A staging buffer whole. -/
abbrev whole (c : Dev nD) (b : Ref sig .tc) (X : b.ty.Contents (Elt F)) : sProp 𝕄 := (((c : Thread nD τ).loc b) ↦{fullShare} X)

theorem load_own (c : Dev nD) : (srcB : Memref sig .tc .vmem S256x256 .f32).view.setOn (ownR c).toLoadRect.set ⊆ rows c := fun i hi => by
  obtain ⟨x, hx, rfl⟩ := Finset.mem_map.mp hi
  have h : x ∈ (ownR c).set := hx
  rw [ownR_set] at h; exact h
theorem load_own' (c : Dev nD) : (outB : Memref sig .tc .vmem S256x256 .f32).view.setOn (ownR c).toLoadRect.set ⊆ rows c := fun i hi => by
  obtain ⟨x, hx, rfl⟩ := Finset.mem_map.mp hi
  have h : x ∈ (ownR c).set := hx
  rw [ownR_set] at h; exact h
theorem load_slot (j : Fin 3) : (rsB : Memref sig .tc .vmem S3x64x256 .f32).view.setOn (slotR j).toLoadRect.set ⊆ slot j := fun i hi => by
  obtain ⟨x, hx, rfl⟩ := Finset.mem_map.mp hi
  have h : x ∈ (slotR j).set := hx
  rw [slotR_set] at h; exact h
theorem store_own (c : Dev nD) : ((outB : Memref sig .tc .vmem S256x256 .f32).access (ownR c) : View sig .tc _ _ _).setOn Finset.univ ⊆ rows c :=
  ((View.set_slice_whole cc0_stg5_0 (ownR c)).trans (ownR_set c)).subset

/-- The buffer of partial sums, just stored, by its pieces. -/
theorem src_stored (c : Dev nD) : ((View.loc (c : Thread nD τ) ((srcB : Memref sig .tc .vmem S256x256 .f32).access
      (Rect.unit (s := S256x256) ![0, 0] S256x256.size inb_S256x256_S256x256_0_0)) ↦{fullShare}
        (k0_pay5 (place c) (k0_pay1 (xs m c)) (k0_pay2 (ri m c)) (k0_pay3 (xs m c) (rw' m c)) (k0_pay4 (xs m c) (rw' m c)) (ew m c))) : sProp 𝕄)
      = iprop(srcP c c (part m c) ∗ srcP c (fwd c 0) (part m c) ∗ srcP c (fwd c 1) (part m c) ∗ srcP c (fwd c 2) (part m c)) := src_split c (part m c)

/-- The rows of the result, just stored, as the rows of the final result, at three shares. -/
theorem out_stored (c : Dev nD) (f : (cc0_stg5_0 : Ref sig .tc).ty.Contents (Elt F)) :
    ((View.loc (c : Thread nD τ) ((outB : Memref sig .tc .vmem S256x256 .f32).access (ownR c)) ↦[rows c]{fullShare}
        View.write (Elt F) ((outB : Memref sig .tc .vmem S256x256 .f32).access (ownR c)) f
          (k0_pay7 (k0_pay6 ((xB : Memref sig .tc .vmem S256x128 .f32).view.readAt (Elt F) (xR c).toLoadRect (xs m c))
            ((srcB : Memref sig .tc .vmem S256x256 .f32).view.readAt (Elt F) (ownR c).toLoadRect (part m c)) (sw m c) (landAt m c 0))
            (landAt m c 1) (landAt m c 2)) Finset.univ) : sProp 𝕄)
      ⊢ iprop(outP c c (third 0) (res m) ∗ outP c c (third 1) (res m) ∗ outP c c (third 2) (res m)) :=
  (Entails.of_eq (rows_stored m c f)).trans (out_thirds c c (res m)).1

/-- The loaded pieces under their names. -/
theorem src_fold (c b : Dev nD) (f : (cc0_scratch0 : Ref sig .tc).ty.Contents (Elt F)) :
    ((View.loc (c : Thread nD τ) (View.whole cc0_scratch0) ↦[rows b]{fullShare} f) : sProp 𝕄) ⊢ srcP c b f := Entails.of_eq rfl
theorem slot_fold (c : Dev nD) (j : Fin 3) (f : (cc0_scratch1 : Ref sig .tc).ty.Contents (Elt F)) :
    ((View.loc (c : Thread nD τ) (View.whole cc0_scratch1) ↦[slot j]{fullShare} f) : sProp 𝕄) ⊢ slotP c j f := Entails.of_eq rfl

def bodyPre (c : Dev nD) : sProp 𝕄 :=
  iprop(ghost m K c ∗ credits c ∗ levAts L lv ∗ scratch c
    ∗ owed c (owe c 9)
    ∗ whole c cc0_stg0_0 (xs m c) ∗ whole c cc0_stg1_0 (rw' m c) ∗ whole c cc0_stg2_0 (ri m c) ∗ whole c cc0_stg3_0 (ew m c)
    ∗ whole c cc0_stg4_0 (sw m c) ∗ ∃ f, whole c cc0_stg5_0 f)

def bodyPost (c : Dev nD) : sProp 𝕄 :=
  iprop(Φ₁ c ∗ owed c 0
    ∗ whole c cc0_stg0_0 (xs m c) ∗ whole c cc0_stg1_0 (rw' m c) ∗ whole c cc0_stg2_0 (ri m c) ∗ whole c cc0_stg3_0 (ew m c)
    ∗ whole c cc0_stg4_0 (sw m c) ∗ whole c cc0_stg5_0 (res m))

set_option maxHeartbeats 2000000 in
set_option maxRecDepth 65536 in
theorem sound_body (c : Dev nD) (Kt : PUnit → sProp 𝕄) :
    iprop(bodyPre m K c ∗ (bodyPost m c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_stg2_0) (Memref.isWhole_whole _) (Memref.whole cc0_stg3_0) (Memref.isWhole_whole _)
            (Memref.whole cc0_stg4_0) (Memref.isWhole_whole _) (Memref.whole cc0_stg5_0) (Memref.isWhole_whole _)
            (Memref.whole cc0_scratch0) (Memref.isWhole_whole _) (Memref.whole cc0_scratch1) (Memref.isWhole_whole _)
            cc0_scratch2 cc0_scratch3 cc0_scratch4 cc0_scratch5) Kt := by
  simp only [cc0_body_eq_skeleton]; unfold cc0_body_skel
  simp only [k0_part1_eq_skeleton, k0_part2_eq_skeleton, k0_part3_eq_skeleton, k0_part4_eq_skeleton, k0_part5_eq_skeleton, k0_part6_eq_skeleton, k0_part7_eq_skeleton]
  unfold k0_part1_skel k0_part2_skel k0_part3_skel k0_part4_skel k0_part5_skel k0_part6_skel k0_part7_skel
  simp only [semSignalWord, semWaitWord, Prog.lift, Prog.bind_op, Prog.bind_ret, Prog.pure_eq_ret, wp_deviceId]
  unfold bodyPre ghost posns payToks credits scratch
  simp only [three, four]
  iintro ⟨⟨⟨#HR, ⟨HaB, ⟨Ha00, Ha01, Ha02⟩, ⟨Ha10, Ha11, Ha12⟩, ⟨Ha20, Ha21, Ha22⟩, ⟨Ha30, Ha31, Ha32⟩⟩,
      ⟨HtB0, HtB1, HtB2⟩, ⟨Ht00, Ht01, Ht02⟩, ⟨Ht10, Ht11, Ht12⟩, ⟨Ht20, Ht21, Ht22⟩, ⟨Ht30, Ht31, Ht32⟩⟩,
    ⟨HcB, ⟨Hc10, Hc11, Hc12⟩, ⟨Hc30, Hc31, Hc32⟩⟩, #Hl, ⟨⟨%fs, Hsrc⟩, ⟨%fr, Hrs⟩⟩, HO, Hx, Hrw, Hri, Hew, Hsw, ⟨%fo, Hout⟩⟩, Hk⟩
  ihave Hrs := (Entails.of_eq (slot_split c fr)) $$ Hrs
  icases Hrs with ⟨Hl0, Hl1, Hl2⟩
  ihave Hout := (Entails.of_eq (out_split c fo)) $$ Hout
  icases Hout with ⟨Hown, Ho0, Ho1, Ho2⟩
  -- the three signals
  iapply (wp_sig m K c ⟨k0_dev1 c, k0_dev1_lt c⟩ 0 (Fin.ext (k0_dev1_eq c)) rfl (by decide) (owe c 8) rfl) $$ [HO HtB0 Hl2 Ho0]
  · isplitr; · iexact HR
    isplitl [HO]; · iexact HO
    isplitl [HtB0]; · iexact HtB0
    isplitl [Hl2]; · iexists fr; iexact Hl2
    iexists fo; iexact Ho0
  iintro HO
  iapply (wp_sig m K c ⟨k0_dev2 c, k0_dev2_lt c⟩ 1 (Fin.ext (k0_dev2_eq c)) rfl (by decide) (owe c 7) rfl) $$ [HO HtB1 Hl1 Ho1]
  · isplitr; · iexact HR
    isplitl [HO]; · iexact HO
    isplitl [HtB1]; · iexact HtB1
    isplitl [Hl1]; · iexists fr; iexact Hl1
    iexists fo; iexact Ho1
  iintro HO
  iapply (wp_sig m K c ⟨k0_dev3 c, k0_dev3_lt c⟩ 2 (Fin.ext (k0_dev3_eq c)) rfl (by decide) (owe c 6) rfl) $$ [HO HtB2 Hl0 Ho2]
  · isplitr; · iexact HR
    isplitl [HO]; · iexact HO
    isplitl [HtB2]; · iexact HtB2
    isplitl [Hl0]; · iexists fr; iexact Hl0
    iexists fo; iexact Ho2
  iintro HO
  -- the wait for the peers
  iapply (wp_barwait m K c rfl (by decide) (owe c 6) (above_owe6 c 1 (by decide))) $$ [HcB HO HaB]
  · isplitr; · iexact HR
    isplitl [HcB]; · iexact HcB
    isplitl [HO]; · iexact HO
    isplitr; · iexact Hl
    iexact HaB
  iintro ⟨HO, HzB, HP0, HP1, HP2⟩
  unfold barPay
  icases HP0 with ⟨Hs0, Hd0⟩
  icases HP1 with ⟨Hs1, Hd1⟩
  icases HP2 with ⟨Hs2, Hd2⟩
  -- the partial sums
  iapply (wp_load 𝒱₀ (c : Thread nD τ) none Set.univ (m := Memref.whole cc0_stg0_0) (Finset.subset_univ _)) $$ Hx; iintro Hx
  rw [ld0]
  iapply (wp_load 𝒱₀ (c : Thread nD τ) none Set.univ (m := Memref.whole cc0_stg2_0) (Finset.subset_univ _)) $$ Hri; iintro Hri
  rw [ld2]
  iapply (wp_load 𝒱₀ (c : Thread nD τ) none Set.univ (m := Memref.whole cc0_stg1_0) (Finset.subset_univ _)) $$ Hrw; iintro Hrw
  rw [ld1]
  iapply (wp_load 𝒱₀ (c : Thread nD τ) none Set.univ (m := Memref.whole cc0_stg3_0) (Finset.subset_univ _)) $$ Hew; iintro Hew
  rw [ld3]
  iapply (wp_load 𝒱₀ (c : Thread nD τ) none Set.univ (m := Memref.whole cc0_scratch0) (Finset.subset_univ _)) $$ Hsrc; iintro Hsrc
  iapply (wp_store 𝒱₀ (c : Thread nD τ) none Set.univ (m := Memref.whole cc0_scratch0) (r := Rect.unit (s := S256x256) ![0, 0] S256x256.size inb_S256x256_S256x256_0_0) (Mk := Finset.univ) (Finset.subset_univ _)) $$ Hsrc; iintro Hsrc
  rw [st6]
  ihave Hsrc := (Entails.of_eq (src_stored m c)) $$ Hsrc
  icases Hsrc with ⟨Hpo, Hp0, Hp1, Hp2⟩
  -- the three copies of partial sums
  iapply (wp_send_part m K c ⟨k0_dev4 c, k0_dev4_lt c⟩ 0 (Fin.ext (k0_dev4_eq c)) rfl rfl rfl rfl (owe c 5) rfl) $$ [HO Hp0 Hs0 Ht00 Ht10]
  · isplitr; · iexact HR
    isplitl [Hp0]; · iexact Hp0
    isplitl [Hs0]; · iexact Hs0
    isplitl [HO]; · iexact HO
    isplitl [Ht00]; · iexact Ht00
    iexact Ht10
  iintro ⟨Hc00, HO⟩
  iapply (wp_send_part m K c ⟨k0_dev5 c, k0_dev5_lt c⟩ 1 (Fin.ext (k0_dev5_eq c)) rfl rfl rfl rfl (owe c 4) rfl) $$ [HO Hp1 Hs1 Ht01 Ht11]
  · isplitr; · iexact HR
    isplitl [Hp1]; · iexact Hp1
    isplitl [Hs1]; · iexact Hs1
    isplitl [HO]; · iexact HO
    isplitl [Ht01]; · iexact Ht01
    iexact Ht11
  iintro ⟨Hc01, HO⟩
  iapply (wp_send_part m K c ⟨k0_dev6 c, k0_dev6_lt c⟩ 2 (Fin.ext (k0_dev6_eq c)) rfl rfl rfl rfl (owe c 3) rfl) $$ [HO Hp2 Hs2 Ht02 Ht12]
  · isplitr; · iexact HR
    isplitl [Hp2]; · iexact Hp2
    isplitl [Hs2]; · iexact Hs2
    isplitl [HO]; · iexact HO
    isplitl [Ht02]; · iexact Ht02
    iexact Ht12
  iintro ⟨Hc02, HO⟩
  iapply (wp_load 𝒱₀ (c : Thread nD τ) none Set.univ (m := Memref.whole cc0_stg0_0) (Finset.subset_univ _)) $$ Hx; iintro Hx
  unfold srcP
  iapply (wp_load 𝒱₀ (c : Thread nD τ) none Set.univ (m := Memref.whole cc0_scratch0) (r := (ownR c).toLoadRect) (S := rows c) (load_own c)) $$ Hpo; iintro Hpo
  iapply (wp_load 𝒱₀ (c : Thread nD τ) none Set.univ (m := Memref.whole cc0_stg4_0) (Finset.subset_univ _)) $$ Hsw; iintro Hsw
  rw [ld4]
  iapply (wp_xwait m K c 1 0 (src := srcM c 0) (dst := slotM 0) (h1 := View.wordExact_bits rfl) (h2 := (View.wordExact_bits rfl).reshape _ _) rfl rfl (owe c 3) 2 (above_owe3 c 2 (by decide)) (by rw [lv_land])) $$ [HO Hc10 Ha10]
  · isplitr; · iexact HR
    isplitl [Hc10]; · iexact Hc10
    isplitl [HO]; · iexact HO
    isplitr; · iexact Hl
    iexact Ha10
  iintro ⟨HO, Hz10, Hr0⟩
  ihave Hr0 := (Entails.of_eq (show xPay m c 1 0 = slotP c 0 (land m c) from rfl)) $$ Hr0
  unfold slotP
  iapply (wp_load 𝒱₀ (c : Thread nD τ) none Set.univ (m := Memref.whole cc0_scratch1) (r := (slotR 0).toLoadRect) (S := slot 0) (load_slot 0)) $$ Hr0; iintro Hr0
  iapply (wp_xwait m K c 1 1 (src := srcM c 1) (dst := slotM 1) (h1 := View.wordExact_bits rfl) (h2 := (View.wordExact_bits rfl).reshape _ _) rfl rfl (owe c 3) 2 (above_owe3 c 2 (by decide)) (by rw [lv_land])) $$ [HO Hc11 Ha11]
  · isplitr; · iexact HR
    isplitl [Hc11]; · iexact Hc11
    isplitl [HO]; · iexact HO
    isplitr; · iexact Hl
    iexact Ha11
  iintro ⟨HO, Hz11, Hr1⟩
  ihave Hr1 := (Entails.of_eq (show xPay m c 1 1 = slotP c 1 (land m c) from rfl)) $$ Hr1
  unfold slotP
  iapply (wp_load 𝒱₀ (c : Thread nD τ) none Set.univ (m := Memref.whole cc0_scratch1) (r := (slotR 1).toLoadRect) (S := slot 1) (load_slot 1)) $$ Hr1; iintro Hr1
  iapply (wp_xwait m K c 1 2 (src := srcM c 2) (dst := slotM 2) (h1 := View.wordExact_bits rfl) (h2 := (View.wordExact_bits rfl).reshape _ _) rfl rfl (owe c 3) 2 (above_owe3 c 2 (by decide)) (by rw [lv_land])) $$ [HO Hc12 Ha12]
  · isplitr; · iexact HR
    isplitl [Hc12]; · iexact Hc12
    isplitl [HO]; · iexact HO
    isplitr; · iexact Hl
    iexact Ha12
  iintro ⟨HO, Hz12, Hr2⟩
  ihave Hr2 := (Entails.of_eq (show xPay m c 1 2 = slotP c 2 (land m c) from rfl)) $$ Hr2
  unfold slotP
  iapply (wp_load 𝒱₀ (c : Thread nD τ) none Set.univ (m := Memref.whole cc0_scratch1) (r := (slotR 2).toLoadRect) (S := slot 2) (load_slot 2)) $$ Hr2; iintro Hr2
  unfold outP
  iapply (wp_load 𝒱₀ (c : Thread nD τ) none Set.univ (m := Memref.whole cc0_stg5_0) (r := (ownR c).toLoadRect) (S := rows c) (load_own' c)) $$ Hown; iintro Hown
  iapply (wp_store 𝒱₀ (c : Thread nD τ) none Set.univ (m := Memref.whole cc0_stg5_0) (r := ownR c) (S := rows c) (Mk := Finset.univ) (store_own c)) $$ Hown; iintro Hown
  ihave Hown := (out_stored m c fo) $$ Hown
  icases Hown with ⟨Hq0, Hq1, Hq2⟩
  -- the three copies of finished rows
  iapply (wp_send_done m K c ⟨k0_dev7 c, k0_dev7_lt c⟩ 0 (Fin.ext (k0_dev7_eq c)) rfl rfl rfl rfl (owe c 2) rfl) $$ [HO Hq0 Hd0 Ht20 Ht30]
  · isplitr; · iexact HR
    isplitl [Hq0]; · iexact Hq0
    isplitl [Hd0]; · iexact Hd0
    isplitl [HO]; · iexact HO
    isplitl [Ht20]; · iexact Ht20
    iexact Ht30
  iintro ⟨Hc20, HO⟩
  iapply (wp_send_done m K c ⟨k0_dev8 c, k0_dev8_lt c⟩ 1 (Fin.ext (k0_dev8_eq c)) rfl rfl rfl rfl (owe c 1) rfl) $$ [HO Hq1 Hd1 Ht21 Ht31]
  · isplitr; · iexact HR
    isplitl [Hq1]; · iexact Hq1
    isplitl [Hd1]; · iexact Hd1
    isplitl [HO]; · iexact HO
    isplitl [Ht21]; · iexact Ht21
    iexact Ht31
  iintro ⟨Hc21, HO⟩
  iapply (wp_send_done m K c ⟨k0_dev9 c, k0_dev9_lt c⟩ 2 (Fin.ext (k0_dev9_eq c)) rfl rfl rfl rfl (owe c 0) rfl) $$ [HO Hq2 Hd2 Ht22 Ht32]
  · isplitr; · iexact HR
    isplitl [Hq2]; · iexact Hq2
    isplitl [Hd2]; · iexact Hd2
    isplitl [HO]; · iexact HO
    isplitl [Ht22]; · iexact Ht22
    iexact Ht32
  iintro ⟨Hc22, HO⟩
  iapply (wp_xwait m K c 3 0 (src := outM c) (dst := outM c) (h1 := View.wordExact_bits rfl) (h2 := View.wordExact_bits rfl) rfl rfl (owe c 0) 3 (Above.zero _) (by rw [lv_done])) $$ [HO Hc30 Ha30]
  · isplitr; · iexact HR
    isplitl [Hc30]; · iexact Hc30
    isplitl [HO]; · iexact HO
    isplitr; · iexact Hl
    iexact Ha30
  iintro ⟨HO, Hz30, Hg0⟩
  ihave Hg0 := (Entails.of_eq (show xPay m c 3 0 = outP c (bwd c 0) fullShare (res m) from rfl)) $$ Hg0
  iapply (wp_xwait m K c 3 1 (src := outM c) (dst := outM c) (h1 := View.wordExact_bits rfl) (h2 := View.wordExact_bits rfl) rfl rfl (owe c 0) 3 (Above.zero _) (by rw [lv_done])) $$ [HO Hc31 Ha31]
  · isplitr; · iexact HR
    isplitl [Hc31]; · iexact Hc31
    isplitl [HO]; · iexact HO
    isplitr; · iexact Hl
    iexact Ha31
  iintro ⟨HO, Hz31, Hg1⟩
  ihave Hg1 := (Entails.of_eq (show xPay m c 3 1 = outP c (bwd c 1) fullShare (res m) from rfl)) $$ Hg1
  iapply (wp_xwait m K c 3 2 (src := outM c) (dst := outM c) (h1 := View.wordExact_bits rfl) (h2 := View.wordExact_bits rfl) rfl rfl (owe c 0) 3 (Above.zero _) (by rw [lv_done])) $$ [HO Hc32 Ha32]
  · isplitr; · iexact HR
    isplitl [Hc32]; · iexact Hc32
    isplitl [HO]; · iexact HO
    isplitr; · iexact Hl
    iexact Ha32
  iintro ⟨HO, Hz32, Hg2⟩
  ihave Hg2 := (Entails.of_eq (show xPay m c 3 2 = outP c (bwd c 2) fullShare (res m) from rfl)) $$ Hg2
  iapply (wp_xwait m K c 0 0 (src := slotM 0) (dst := srcM c 0) (h1 := (View.wordExact_bits rfl).reshape _ _) (h2 := View.wordExact_bits rfl) rfl rfl (owe c 0) 3 (Above.zero _) (by unfold lv; rw [cls_xsem]; exact Nat.zero_le _)) $$ [HO Hc00 Ha00]
  · isplitr; · iexact HR
    isplitl [Hc00]; · iexact Hc00
    isplitl [HO]; · iexact HO
    isplitr; · iexact Hl
    iexact Ha00
  iintro ⟨HO, Hz00, Hp0⟩
  ihave Hp0 := (Entails.of_eq (show xPay m c 0 0 = srcP c (fwd c 0) (part m c) from rfl)) $$ Hp0
  iapply (wp_xwait m K c 2 0 (src := outM c) (dst := outM c) (h1 := View.wordExact_bits rfl) (h2 := View.wordExact_bits rfl) rfl rfl (owe c 0) 3 (Above.zero _) (by rw [lv_sent]; exact Nat.zero_le _)) $$ [HO Hc20 Ha20]
  · isplitr; · iexact HR
    isplitl [Hc20]; · iexact Hc20
    isplitl [HO]; · iexact HO
    isplitr; · iexact Hl
    iexact Ha20
  iintro ⟨HO, Hz20, Hq0⟩
  ihave Hq0 := (Entails.of_eq (show xPay m c 2 0 = outP c c (third 0) (res m) from rfl)) $$ Hq0
  iapply (wp_xwait m K c 0 1 (src := slotM 1) (dst := srcM c 1) (h1 := (View.wordExact_bits rfl).reshape _ _) (h2 := View.wordExact_bits rfl) rfl rfl (owe c 0) 3 (Above.zero _) (by unfold lv; rw [cls_xsem]; exact Nat.zero_le _)) $$ [HO Hc01 Ha01]
  · isplitr; · iexact HR
    isplitl [Hc01]; · iexact Hc01
    isplitl [HO]; · iexact HO
    isplitr; · iexact Hl
    iexact Ha01
  iintro ⟨HO, Hz01, Hp1⟩
  ihave Hp1 := (Entails.of_eq (show xPay m c 0 1 = srcP c (fwd c 1) (part m c) from rfl)) $$ Hp1
  iapply (wp_xwait m K c 2 1 (src := outM c) (dst := outM c) (h1 := View.wordExact_bits rfl) (h2 := View.wordExact_bits rfl) rfl rfl (owe c 0) 3 (Above.zero _) (by rw [lv_sent]; exact Nat.zero_le _)) $$ [HO Hc21 Ha21]
  · isplitr; · iexact HR
    isplitl [Hc21]; · iexact Hc21
    isplitl [HO]; · iexact HO
    isplitr; · iexact Hl
    iexact Ha21
  iintro ⟨HO, Hz21, Hq1⟩
  ihave Hq1 := (Entails.of_eq (show xPay m c 2 1 = outP c c (third 1) (res m) from rfl)) $$ Hq1
  iapply (wp_xwait m K c 0 2 (src := slotM 2) (dst := srcM c 2) (h1 := (View.wordExact_bits rfl).reshape _ _) (h2 := View.wordExact_bits rfl) rfl rfl (owe c 0) 3 (Above.zero _) (by unfold lv; rw [cls_xsem]; exact Nat.zero_le _)) $$ [HO Hc02 Ha02]
  · isplitr; · iexact HR
    isplitl [Hc02]; · iexact Hc02
    isplitl [HO]; · iexact HO
    isplitr; · iexact Hl
    iexact Ha02
  iintro ⟨HO, Hz02, Hp2⟩
  ihave Hp2 := (Entails.of_eq (show xPay m c 0 2 = srcP c (fwd c 2) (part m c) from rfl)) $$ Hp2
  iapply (wp_xwait m K c 2 2 (src := outM c) (dst := outM c) (h1 := View.wordExact_bits rfl) (h2 := View.wordExact_bits rfl) rfl rfl (owe c 0) 3 (Above.zero _) (by rw [lv_sent]; exact Nat.zero_le _)) $$ [HO Hc22 Ha22]
  · isplitr; · iexact HR
    isplitl [Hc22]; · iexact Hc22
    isplitl [HO]; · iexact HO
    isplitr; · iexact Hl
    iexact Ha22
  iintro ⟨HO, Hz22, Hq2⟩
  ihave Hq2 := (Entails.of_eq (show xPay m c 2 2 = outP c c (third 2) (res m) from rfl)) $$ Hq2
  rw [wp_ret]; imodintro
  iapply Hk
  ihave Hpo := (src_fold c c _) $$ Hpo
  ihave Hr0 := (slot_fold c 0 _) $$ Hr0
  ihave Hr1 := (slot_fold c 1 _) $$ Hr1
  ihave Hr2 := (slot_fold c 2 _) $$ Hr2
  unfold bodyPost Φ₁ scratch drained
  simp only [three, four]
  ihave Hout := (out_thirds c c (res m)).2 $$ [Hq0 Hq1 Hq2]
  · isplitl [Hq0]; · iexact Hq0
    isplitl [Hq1] <;> iassumption
  isplitl [Hpo Hp0 Hp1 Hp2 Hr0 Hr1 Hr2 HzB Hz00 Hz01 Hz02 Hz10 Hz11 Hz12 Hz20 Hz21 Hz22 Hz30 Hz31 Hz32]
  · isplitl [Hpo Hp0 Hp1 Hp2 Hr0 Hr1 Hr2]
    · isplitl [Hpo Hp0 Hp1 Hp2]
      · iexists (part m c)
        iapply (Entails.of_eq (src_split c (part m c)).symm)
        isplitl [Hpo]; · iexact Hpo
        isplitl [Hp0]; · iexact Hp0
        isplitl [Hp1] <;> iassumption
      · iexists (land m c)
        iapply (Entails.of_eq (slot_split c (land m c)).symm)
        isplitl [Hr0]; · iexact Hr0
        isplitl [Hr1] <;> iassumption
    isplitl [HzB]; · iexact HzB
    isplitl [Hz00 Hz01 Hz02]
    · isplitl [Hz00]; · iexact Hz00
      isplitl [Hz01] <;> iassumption
    isplitl [Hz10 Hz11 Hz12]
    · isplitl [Hz10]; · iexact Hz10
      isplitl [Hz11] <;> iassumption
    isplitl [Hz20 Hz21 Hz22]
    · isplitl [Hz20]; · iexact Hz20
      isplitl [Hz21] <;> iassumption
    isplitl [Hz30]; · iexact Hz30
    isplitl [Hz31] <;> iassumption
  isplitl [HO]; · iexact HO
  isplitl [Hx]; · iexact Hx
  isplitl [Hrw]; · iexact Hrw
  isplitl [Hri]; · iexact Hri
  isplitl [Hew]; · iexact Hew
  isplitl [Hsw]; · iexact Hsw
  iapply (Entails.of_eq (out_join c (res m)).symm)
  isplitl [Hout]; · iexact Hout
  isplitl [Hg0]; · iexact Hg0
  isplitl [Hg1] <;> iassumption

end Cert.KernelIdeal.Run

end
-- ==== Proof.KernelIdealRun.Launch.lean ====
/-
What the launch deals the four devices: the cells' invariants, positions and duty tokens, the tokens passed to the devices
that pay them, and the credit of each wait.
-/
module

public import proofs.«01_k».proof.Proof.KernelIdealRun.Body

@[expose] public section

noncomputable section

namespace Cert.KernelIdeal.Run

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Cells and tokens -/

theorem ownSemFacts : Pipeline.OwnSemFacts cfg0.spec osem := by decide

theorem csem_injective : Function.Injective (csem : Option (Fin 4 × Fin 3) → SemLoc sig) := by
  intro a b h
  have e (x : Option (Fin 4 × Fin 3)) : cls (csem x) = some x := by
    rcases x with _ | ⟨k, j⟩
    · rfl
    · exact cls_xsem k j
  exact Option.some.inj ((e a).symm.trans ((congrArg cls h).trans (e b)))

theorem kcell_injective : Function.Injective (kcell : Dev nD × Option (Fin 4 × Fin 3) → GSem nD τ sig) := by
  rintro ⟨c, a⟩ ⟨c', a'⟩ h
  have h1 : c = c' := Fin.ext (congrArg (fun g : GSem nD τ sig => g.1.1.val) h)
  have h2 : a = a' := csem_injective (congrArg Prod.snd h)
  rw [h1, h2]

def allCells : Finset (GSem nD τ sig) := Finset.univ.map ⟨kcell, kcell_injective⟩

/-- A device's own duty tokens: the three of its barrier cell and the one of each transfer cell. -/
abbrev tokOf : Dev nD × Option (Fin 4) × Fin 3 → GSem nD τ sig × ℕ × Fin 3
  | (c, none, d) => (bar c, 0, d)
  | (c, some k, j) => (cell c k j, 0, 0)
theorem tokOf_injective : Function.Injective tokOf := by
  rintro ⟨c, k, j⟩ ⟨c', k', j'⟩ h
  rcases k with _ | k <;> rcases k' with _ | k'
  · have h1 := kcell_injective (a₁ := (c, none)) (a₂ := (c', none)) (congrArg Prod.fst h)
    have h2 : j = j' := congrArg (fun x : GSem nD τ sig × ℕ × Fin 3 => x.2.2) h
    rw [h2, (Prod.mk.inj h1).1]
  · exact absurd (kcell_injective (a₁ := (c, none)) (a₂ := (c', some (k', j'))) (congrArg Prod.fst h)) (fun e => by cases e)
  · exact absurd (kcell_injective (a₁ := (c, some (k, j))) (a₂ := (c', none)) (congrArg Prod.fst h)) (fun e => by cases e)
  · have h1 := kcell_injective (a₁ := (c, some (k, j))) (a₂ := (c', some (k', j'))) (congrArg Prod.fst h)
    cases h1; rfl
def allToks : Finset (GSem nD τ sig × ℕ × Fin 3) := Finset.univ.map ⟨tokOf, tokOf_injective⟩

def u₀ : UU :=
  (initOf (Pipeline.cells cfgs cellOf_inj) (Pipeline.launchToks cfgs cellOf_inj), initOf allCells allToks)

/-- The duty tokens of device `c`'s own cells. -/
def toks (c : Dev nD) : sProp 𝕄 :=
  iprop((bigSep Finset.univ fun d : Fin 3 => dutyTok ER (bar c) 0 d)
    ∗ bigSep Finset.univ fun k : Fin 4 => bigSep Finset.univ fun j : Fin 3 => dutyTok ER (cell c k j) 0 0)

/-- What the launch element deals device `c`. -/
def G (c : Dev nD) : sProp 𝕄 :=
  iprop((bigSep Finset.univ fun o : Option (Fin 4 × Fin 3) => roundState ER (rd m) (kcell (c, o)) 0)
    ∗ (bigSep Finset.univ fun o : Option (Fin 4 × Fin 3) => atPos ER (kcell (c, o)) 0 ∅ 0)
    ∗ (bigSep Finset.univ fun o : Option (Fin 4 × Fin 3) => reached ER (kcell (c, o)) 0) ∗ toks c)

/-- What the global step makes of it. -/
def G' (c : Dev nD) : sProp 𝕄 := iprop(∃ K, ghost m K c)

/-- Over an optional index: at none, and over the rest. -/
theorem bigSep_opt {I : Type} [Fintype I] [DecidableEq I] (Φ : Option I → sProp 𝕄) :
    bigSep Finset.univ Φ = iprop(Φ none ∗ bigSep Finset.univ fun i => Φ (some i)) := by
  rw [bigSep_univ_at Φ none, show (Finset.univ : Finset (Option I)).erase none = Finset.univ.map Function.Embedding.some from by
    ext x; rcases x with _ | x <;> simp, bigSep_map]
  rfl

theorem bigSep_cells (Φ : Option (Fin 4 × Fin 3) → sProp 𝕄) :
    bigSep Finset.univ Φ = iprop(Φ none ∗ bigSep Finset.univ fun k : Fin 4 => bigSep Finset.univ fun j : Fin 3 => Φ (some (k, j))) := by
  rw [bigSep_opt, bigSep_univ_prod]

theorem fund : BI.own (ER (initOf allCells allToks)) ⊢ (|==> bigSep Finset.univ (G m) : sProp 𝕄) := by
  have hX (Φ : GSem nD τ sig → sProp 𝕄) : bigSep allCells Φ
      = bigSep Finset.univ fun c : Dev nD => bigSep Finset.univ fun o : Option (Fin 4 × Fin 3) => Φ (kcell (c, o)) := by
    unfold allCells; rw [bigSep_map, bigSep_univ_prod]; rfl
  have hT : bigSep allToks (fun x => (dutyTok ER x.1 x.2.1 x.2.2 : sProp 𝕄)) = bigSep Finset.univ fun c : Dev nD => toks c := by
    unfold allToks; rw [bigSep_map, bigSep_univ_prod]
    exact bigSep_congr fun c _ => by unfold toks; rw [bigSep_univ_prod, bigSep_opt]; rfl
  iintro HX
  imod (Rounds.fund ER (rd m) allCells allToks) $$ HX with ⟨Hst, Hr, Hat, Htok⟩
  imodintro
  ihave Hst' := (Entails.of_eq (hX fun g => roundState ER (rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat']; · iexact Hat'
  isplitl [Hr']; · iexact Hr'
  iexact Htok'

/-! ## The invariants -/

/-- The transfer semaphores are the kernel's own; -/
theorem ownSems0_eq (c : Dev nD) : (Pipeline.ownSems0 (Ix := Unit) (Name := ℕ) (U := UU) (Lvl := ℕ) (Val := Elt F) (τ := τ) osem c : sProp 𝕄)
    = bigSep Finset.univ fun k : Fin 4 => bigSep Finset.univ fun j : Fin 3 => semVal (cell c k j) 0 := by
  unfold Pipeline.ownSems0; rw [bigSep_univ_prod]
/-- the barrier semaphore is the launch's one unscoped semaphore. -/
theorem unscopedSems0_eq (c : Dev nD) : (unscopedSems0 c : sProp 𝕄) = semVal (bar c) 0 := by
  unfold unscopedSems0; rw [bigSep_eq_bigSepL_of_eq [SemLoc.reg barS] (by decide) (by decide)]; rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun o : Option (Fin 4 × Fin 3) => semVal (kcell (c, o)) 0 : sProp 𝕄) := by
  rw [ownSems0_eq, unscopedSems0_eq, bigSep_cells]
  iintro ⟨HS, HB⟩
  isplitl [HB]; · iexact HB
  iexact HS

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun o => iprop(∃ κ : ℕ, cellInv ER (rd m) κ (kcell (c, o))))
          ∗ (bigSep Finset.univ fun o => atPos ER (kcell (c, o)) 0 ∅ 0) ∗ (bigSep Finset.univ fun o => reached ER (kcell (c, o)) 0) ∗ toks c) := by
  unfold G
  iintro ⟨Hos, Hus, Hst, Hat, Hr, Htok⟩
  ihave Hv := (sems0_eq (F := F) c) $$ [Hos Hus]
  · isplitl [Hos] <;> iassumption
  imod (show iprop((bigSep Finset.univ fun o : Option (Fin 4 × Fin 3) => semVal (kcell (c, o)) 0)
        ∗ bigSep Finset.univ fun o : Option (Fin 4 × Fin 3) => roundState ER (rd m) (kcell (c, o)) 0)
      ⊢ (|={Set.univ}=> bigSep Finset.univ fun o => iprop(∃ κ : ℕ, cellInv ER (rd m) κ (kcell (c, o))) : sProp 𝕄) from by
        rw [← bigSep_sep']
        exact (bigSep_mono fun o _ => (Rounds.body_intro ER (rd m) (kcell (c, o))).trans inv_alloc).trans (bigSep_fupd _ _)) $$ [Hv Hst] with Hinv
  · isplitl [Hv] <;> iassumption
  imodintro
  isplitl [Hinv]; · iexact Hinv
  isplitl [Hat]; · iexact Hat
  isplitl [Hr]; · iexact Hr
  iexact Htok

/-- A device's own tokens, and the tokens it pays, one by one. -/
theorem toks_eq (c : Dev nD) : (toks c : sProp 𝕄) = iprop((dutyTok ER (bar c) 0 0 ∗ dutyTok ER (bar c) 0 1 ∗ dutyTok ER (bar c) 0 2)
    ∗ (dutyTok ER (cell c 0 0) 0 0 ∗ dutyTok ER (cell c 0 1) 0 0 ∗ dutyTok ER (cell c 0 2) 0 0)
    ∗ (dutyTok ER (cell c 1 0) 0 0 ∗ dutyTok ER (cell c 1 1) 0 0 ∗ dutyTok ER (cell c 1 2) 0 0)
    ∗ (dutyTok ER (cell c 2 0) 0 0 ∗ dutyTok ER (cell c 2 1) 0 0 ∗ dutyTok ER (cell c 2 2) 0 0)
    ∗ (dutyTok ER (cell c 3 0) 0 0 ∗ dutyTok ER (cell c 3 1) 0 0 ∗ dutyTok ER (cell c 3 2) 0 0)) := by
  unfold toks; rw [four]; simp only [three]
theorem payToks_eq (c : Dev nD) : (payToks c : sProp 𝕄) = iprop((dutyTok ER (bar (fwd c 0)) 0 2 ∗ dutyTok ER (bar (fwd c 1)) 0 1 ∗ dutyTok ER (bar (fwd c 2)) 0 0)
    ∗ (dutyTok ER (cell c 0 0) 0 0 ∗ dutyTok ER (cell c 0 1) 0 0 ∗ dutyTok ER (cell c 0 2) 0 0)
    ∗ (dutyTok ER (cell (fwd c 0) 1 0) 0 0 ∗ dutyTok ER (cell (fwd c 1) 1 1) 0 0 ∗ dutyTok ER (cell (fwd c 2) 1 2) 0 0)
    ∗ (dutyTok ER (cell c 2 0) 0 0 ∗ dutyTok ER (cell c 2 1) 0 0 ∗ dutyTok ER (cell c 2 2) 0 0)
    ∗ (dutyTok ER (cell (fwd c 0) 3 0) 0 0 ∗ dutyTok ER (cell (fwd c 1) 3 1) 0 0 ∗ dutyTok ER (cell (fwd c 2) 3 2) 0 0)) := by
  unfold payToks; simp only [three]; rfl

/-- The tokens passed to the devices that pay: a cell's token `j` places back. -/
theorem toks_around : (bigSep Finset.univ fun c : Dev nD => (toks c : sProp 𝕄)) ⊢ bigSep Finset.univ fun c : Dev nD => payToks c := by
  rw [bigSep_congr (s := Finset.univ) (fun (c : Dev nD) _ => toks_eq (F := F) c), bigSep_congr (s := Finset.univ) (fun (c : Dev nD) _ => payToks_eq (F := F) c)]
  simp only [bigSep_sep']
  rw [bigSep_univ_equiv (step 0) (fun c : Dev nD => (dutyTok ER (bar c) 0 2 : sProp 𝕄)),
    bigSep_univ_equiv (step 1) (fun c : Dev nD => (dutyTok ER (bar c) 0 1 : sProp 𝕄)),
    bigSep_univ_equiv (step 2) (fun c : Dev nD => (dutyTok ER (bar c) 0 0 : sProp 𝕄)),
    bigSep_univ_equiv (step 0) (fun c : Dev nD => (dutyTok ER (cell c 1 0) 0 0 : sProp 𝕄)),
    bigSep_univ_equiv (step 1) (fun c : Dev nD => (dutyTok ER (cell c 1 1) 0 0 : sProp 𝕄)),
    bigSep_univ_equiv (step 2) (fun c : Dev nD => (dutyTok ER (cell c 1 2) 0 0 : sProp 𝕄)),
    bigSep_univ_equiv (step 0) (fun c : Dev nD => (dutyTok ER (cell c 3 0) 0 0 : sProp 𝕄)),
    bigSep_univ_equiv (step 1) (fun c : Dev nD => (dutyTok ER (cell c 3 1) 0 0 : sProp 𝕄)),
    bigSep_univ_equiv (step 2) (fun c : Dev nD => (dutyTok ER (cell c 3 2) 0 0 : sProp 𝕄))]
  iintro ⟨⟨B0, B1, B2⟩, ⟨T00, T01, T02⟩, ⟨T10, T11, T12⟩, ⟨T20, T21, T22⟩, T30, T31, T32⟩
  isplitl [B0 B1 B2]
  · isplitl [B2]; · iexact B2
    isplitl [B1]; · iexact B1
    iexact B0
  isplitl [T00 T01 T02]
  · isplitl [T00]; · iexact T00
    isplitl [T01]; · iexact T01
    iexact T02
  isplitl [T10 T11 T12]
  · isplitl [T10]; · iexact T10
    isplitl [T11]; · iexact T11
    iexact T12
  isplitl [T20 T21 T22]
  · isplitl [T20]; · iexact T20
    isplitl [T21]; · iexact T21
    iexact T22
  isplitl [T30]; · iexact T30
  isplitl [T31]; · iexact T31
  iexact T32

/-- A persistent assertion goes to every summand. -/
theorem bigSep_share {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem ghost_intro (K : Dev nD × Option (Fin 4 × Fin 3) → ℕ) (c : Dev nD) : iprop(records m K ∗ posns c ∗ payToks c) ⊢ G' m c := by
  unfold G' ghost
  iintro H
  iexists K
  iexact H

theorem regroup :
    (bigSep Finset.univ fun c : Dev nD => iprop((bigSep Finset.univ fun o => iprop(∃ κ : ℕ, cellInv ER (rd m) κ (kcell (c, o))))
          ∗ (bigSep Finset.univ fun o => atPos ER (kcell (c, o)) 0 ∅ 0) ∗ (bigSep Finset.univ fun o => reached ER (kcell (c, o)) 0) ∗ toks c) : sProp 𝕄)
      ⊢ bigSep Finset.univ (G' m) := by
  rw [bigSep_sep', bigSep_sep', bigSep_sep',
    ← bigSep_univ_prod (fun ck : Dev nD × Option (Fin 4 × Fin 3) => iprop(∃ κ : ℕ, cellInv ER (rd m) κ (kcell ck))),
    ← bigSep_univ_prod (fun ck : Dev nD × Option (Fin 4 × Fin 3) => (reached ER (kcell ck) 0 : sProp 𝕄))]
  iintro ⟨HI, Hat, #HR, Htok⟩
  ihave HK := (BI.bigSep_exists_pi Finset.univ (fun (ck : Dev nD × Option (Fin 4 × Fin 3)) (κ : ℕ) => (cellInv ER (rd m) κ (kcell ck) : sProp 𝕄))) $$ HI
  icases HK with ⟨%K, #HI⟩
  ihave Htk := (toks_around (F := F)) $$ Htok
  iapply (bigSep_share (R := records m K) fun c _ => ghost_intro m K c)
  isplitr
  · unfold records; isplitl; · iexact HI
    iexact HR
  · iapply ((sep_mono_left (bigSep_mono fun c _ => show (bigSep Finset.univ fun o : Option (Fin 4 × Fin 3) => (atPos ER (kcell (c, o)) 0 ∅ 0 : sProp 𝕄)) ⊢ posns c from
        Entails.of_eq (by unfold posns; rw [bigSep_cells]))).trans
      (Entails.of_eq (bigSep_sep' Finset.univ (fun c : Dev nD => (posns c : sProp 𝕄)) payToks).symm))
    isplitl [Hat]; · iexact Hat
    iexact Htk

/-- The global step: the own and the unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch credit -/

theorem kcell_eq_iff (a b : Dev nD × Option (Fin 4 × Fin 3)) : Iff (kcell a = kcell b) (a = b) := kcell_injective.eq_iff

/-- A tally at one cell, read at another. -/
theorem tally_at (a b : Dev nD × Option (Fin 4 × Fin 3)) (n : ℕ) :
    (tallyAt (kcell a) () n : CellTallies nD τ sig Unit) (kcell b) () = if b = a then n else 0 := by
  rw [tallyAt_apply]
  by_cases h : b = a
  · rw [h, if_pos ⟨rfl, rfl⟩, if_pos rfl]
  · rw [if_neg (fun e => h (kcell_injective e.1)), if_neg h]

theorem fwd_eq_iff (c d : Dev nD) (j : Fin 3) : Iff (c = fwd d j) (d = bwd c j) :=
  ⟨fun h => by rw [h, bwd_fwd], fun h => by rw [h, fwd_bwd]⟩

/-- The nine debts of device `d` by the cells they are owed to. -/
theorem owe9 (d : Dev nD) (b : Dev nD × Option (Fin 4 × Fin 3)) : owe d 9 (kcell b) ()
    = ((((((((0 + (if b = (fwd d 2, some (3, 2)) then N else 0)) + (if b = (fwd d 1, some (3, 1)) then N else 0)) + (if b = (fwd d 0, some (3, 0)) then N else 0))
      + (if b = (fwd d 2, some (1, 2)) then N else 0)) + (if b = (fwd d 1, some (1, 1)) then N else 0)) + (if b = (fwd d 0, some (1, 0)) then N else 0))
      + (if b = (fwd d 2, none) then 1 else 0)) + (if b = (fwd d 1, none) then 1 else 0)) + (if b = (fwd d 0, none) then 1 else 0) := by
  rw [← tally_at (fwd d 2, some (3, 2)), ← tally_at (fwd d 1, some (3, 1)), ← tally_at (fwd d 0, some (3, 0)),
    ← tally_at (fwd d 2, some (1, 2)), ← tally_at (fwd d 1, some (1, 1)), ← tally_at (fwd d 0, some (1, 0)),
    ← tally_at (fwd d 2, none), ← tally_at (fwd d 1, none), ← tally_at (fwd d 0, none)]
  rfl

theorem owed_bar (d c : Dev nD) : owe d 9 (bar c) () = (if d = bwd c 2 then 1 else 0) + (if d = bwd c 1 then 1 else 0) + (if d = bwd c 0 then 1 else 0) := by
  rw [show bar c = kcell (c, none) from rfl, owe9]
  simp only [Prod.mk.injEq, fwd_eq_iff, and_true, reduceCtorEq, and_false, if_false, Nat.zero_add]

theorem owed_cell (d c : Dev nD) (k : Fin 4) (j : Fin 3) (hk : k = 1 ∨ k = 3) : owe d 9 (cell c k j) () = if d = bwd c j then N else 0 := by
  rw [show cell c k j = kcell (c, some (k, j)) from rfl, owe9]
  simp only [Prod.mk.injEq, fwd_eq_iff, reduceCtorEq, and_false, if_false, Nat.zero_add, Nat.add_zero, Option.some.injEq]
  generalize N = n
  rcases hk with rfl | rfl <;> fin_cases j <;> simp

theorem launch_bar (c : Dev nD) :
    tallyOn (bar c) (launchCredit (Pipeline.owing fun c => owe c 9) 0 (bar c)) = (tallyAt (bar c) () 3 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib, Finset.sum_add_distrib,
    Finset.sum_ite_eq' Finset.univ (bwd c 2) fun _ => 1, Finset.sum_ite_eq' Finset.univ (bwd c 1) fun _ => 1, Finset.sum_ite_eq' Finset.univ (bwd c 0) fun _ => 1,
    if_pos (Finset.mem_univ _), if_pos (Finset.mem_univ _), if_pos (Finset.mem_univ _)]

theorem launch_cell (c : Dev nD) (k : Fin 4) (j : Fin 3) (hk : k = 1 ∨ k = 3) :
    tallyOn (cell c k j) (launchCredit (Pipeline.owing fun c => owe c 9) 0 (cell c k j)) = (tallyAt (cell c k j) () N : CellTallies nD τ sig Unit) := by
  unfold tallyAt; refine congrArg _ (Finsupp.ext fun u => ?_); cases u
  rw [Pipeline.launchCredit_owing, Finsupp.single_eq_same, Finset.sum_congr rfl fun d _ => owed_cell d c k j hk,
    Finset.sum_ite_eq' Finset.univ (bwd c j) fun _ => N, if_pos (Finset.mem_univ _)]

/-- The credit of a device's waits on the others, out of the launch credit. -/
theorem creds (c : Dev nD) : (Pipeline.launchCred (fun c => owe c 9) c : sProp 𝕄) ⊢ credits c := by
  unfold Pipeline.launchCred credits
  refine (bigSep_subset (Finset.subset_univ (Finset.univ.map ⟨csem, csem_injective⟩))).trans ?_
  rw [bigSep_map, bigSep_cells, four]
  refine BIClass.sep_mono (Entails.of_eq (congrArg cred (launch_bar c))) ?_
  iintro ⟨-, H1, -, H3⟩
  isplitl [H1]
  · iapply (Entails.of_eq (bigSep_congr (s := Finset.univ) fun (j : Fin 3) _ => congrArg (fun t => (cred t : sProp 𝕄)) (launch_cell c 1 j (Or.inl rfl)))); iexact H1
  · iapply (Entails.of_eq (bigSep_congr (s := Finset.univ) fun (j : Fin 3) _ => congrArg (fun t => (cred t : sProp 𝕄)) (launch_cell c 3 j (Or.inr rfl)))); iexact H3

end Cert.KernelIdeal.Run

end
-- ==== Proof.KernelIdealRun.Main.lean ====
/-
The run of the whole program: every execution ends, the result array holds `res` on every device, the arguments hold what
they held, and every semaphore is at zero.
-/
module

public import proofs.«01_k».proof.Proof.KernelIdealRun.Launch
public import Idealize.ShloMosaic.Lib.Pipeline.CollectiveSegs
public import Idealize.ShloMosaic.Lib.Pipeline.ValueKit.Geometry

@[expose] public section

noncomputable section

namespace Cert.KernelIdeal.Run

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The body's obligation -/

theorem before0 (c : Dev nD) (d) : (dats (F := F) m ρ 0 c).before (0 : Fin 6) t₀ d = xs m c := by unfold Dat.before; rw [if_pos (fetch0_0 t₀)]; rfl
theorem before1 (c : Dev nD) (d) : (dats (F := F) m ρ 0 c).before (1 : Fin 6) t₀ d = rw' m c := by unfold Dat.before; rw [if_pos (fetch0_1 t₀)]; rfl
theorem before2 (c : Dev nD) (d) : (dats (F := F) m ρ 0 c).before (2 : Fin 6) t₀ d = ri m c := by unfold Dat.before; rw [if_pos (fetch0_2 t₀)]; rfl
theorem before3 (c : Dev nD) (d) : (dats (F := F) m ρ 0 c).before (3 : Fin 6) t₀ d = ew m c := by unfold Dat.before; rw [if_pos (fetch0_3 t₀)]; rfl
theorem before4 (c : Dev nD) (d) : (dats (F := F) m ρ 0 c).before (4 : Fin 6) t₀ d = sw m c := by unfold Dat.before; rw [if_pos (fetch0_4 t₀)]; rfl

/-- The library's precondition of the one grid point, and its postcondition. -/
def obPre (c : Dev nD) : sProp 𝕄 :=
  iprop(Φ₀ m c ∗ (dats m ρ 0 c).owesAt () t₀.castSucc
    ∗ (∃ d, stg c cc0_stg0_0 ((dats m ρ 0 c).before (0 : Fin 6) t₀ d))
    ∗ (∃ d, stg c cc0_stg1_0 ((dats m ρ 0 c).before (1 : Fin 6) t₀ d))
    ∗ (∃ d, stg c cc0_stg2_0 ((dats m ρ 0 c).before (2 : Fin 6) t₀ d))
    ∗ (∃ d, stg c cc0_stg3_0 ((dats m ρ 0 c).before (3 : Fin 6) t₀ d))
    ∗ (∃ d, stg c cc0_stg4_0 ((dats m ρ 0 c).before (4 : Fin 6) t₀ d))
    ∗ (∃ d, stg c cc0_stg5_0 ((dats m ρ 0 c).before (5 : Fin 6) t₀ d)))
def obPost (c : Dev nD) : sProp 𝕄 :=
  iprop(Φ₁ c ∗ (dats m ρ 0 c).owesAt () t₀.succ
    ∗ stg c cc0_stg0_0 (xs m c) ∗ stg c cc0_stg1_0 (rw' m c) ∗ stg c cc0_stg2_0 (ri m c) ∗ stg c cc0_stg3_0 (ew m c)
    ∗ stg c cc0_stg4_0 (sw m c) ∗ stg c cc0_stg5_0 (res m))

theorem owes_in (c : Dev nD) : (dats (F := F) m ρ 0 c).owesAt () t₀.castSucc ⊢ owed c (owe c 9) := by
  unfold Dat.owesAt Pipeline.owesWithin owed
  iintro ⟨%W, %hW, HO⟩
  iexists W; iexact HO
theorem owes_out (c : Dev nD) : owed c 0 ⊢ (dats (F := F) m ρ 0 c).owesAt () t₀.succ := by
  unfold Dat.owesAt Pipeline.owesWithin owed
  iintro ⟨%W, HO⟩
  iexists W
  isplitr
  · ipureintro; exact fun _ _ => Or.inl trivial
  · iexact HO

theorem stg_in (c : Dev nD) (b : Ref sig .tc) {D : Type} (X : D → b.ty.Contents (Elt F)) (Y : b.ty.Contents (Elt F)) (h : ∀ d, X d = Y) :
    iprop(∃ d, stg c b (X d)) ⊢ whole c b Y := by
  iintro ⟨%d, %f, %hf, H⟩
  rw [hf, h]; iexact H
theorem stg_some (c : Dev nD) (b : Ref sig .tc) {D : Type} (X : D → b.ty.Contents (Elt F)) :
    iprop(∃ d, stg c b (X d)) ⊢ iprop(∃ f, whole c b f) := by
  iintro ⟨%d, %f, %hf, H⟩
  iexists f; iexact H
theorem stg_out (c : Dev nD) (b : Ref sig .tc) (Y : b.ty.Contents (Elt F)) : whole c b Y ⊢ stg c b Y := by
  iintro H
  iexists Y
  isplitr
  · ipureintro; rfl
  · iexact H

theorem pre_of (c : Dev nD) : obPre m ρ c ⊢ iprop(∃ K, bodyPre m K c) := by
  unfold obPre Φ₀ start
  iintro ⟨⟨⟨⟨%K, Hg⟩, Hc, Hl⟩, Hs⟩, HO, H0, H1, H2, H3, H4, H5⟩
  iexists K
  unfold bodyPre
  isplitl [Hg]; · iexact Hg
  isplitl [Hc]; · iexact Hc
  isplitl [Hl]; · iexact Hl
  isplitl [Hs]; · iexact Hs
  isplitl [HO]; · iapply (owes_in m ρ c); iexact HO
  isplitl [H0]; · iapply (stg_in c cc0_stg0_0 _ (xs m c) (before0 m ρ c)); iexact H0
  isplitl [H1]; · iapply (stg_in c cc0_stg1_0 _ (rw' m c) (before1 m ρ c)); iexact H1
  isplitl [H2]; · iapply (stg_in c cc0_stg2_0 _ (ri m c) (before2 m ρ c)); iexact H2
  isplitl [H3]; · iapply (stg_in c cc0_stg3_0 _ (ew m c) (before3 m ρ c)); iexact H3
  isplitl [H4]; · iapply (stg_in c cc0_stg4_0 _ (sw m c) (before4 m ρ c)); iexact H4
  iapply (stg_some c cc0_stg5_0 _); iexact H5

theorem post_to (c : Dev nD) : bodyPost m c ⊢ obPost m ρ c := by
  unfold bodyPost obPost
  iintro ⟨HΦ, HO, H0, H1, H2, H3, H4, H5⟩
  isplitl [HΦ]; · iexact HΦ
  isplitl [HO]; · iapply (owes_out m ρ c); iexact HO
  isplitl [H0]; · iapply (stg_out c cc0_stg0_0 (xs m c)); iexact H0
  isplitl [H1]; · iapply (stg_out c cc0_stg1_0 (rw' m c)); iexact H1
  isplitl [H2]; · iapply (stg_out c cc0_stg2_0 (ri m c)); iexact H2
  isplitl [H3]; · iapply (stg_out c cc0_stg3_0 (ew m c)); iexact H3
  isplitl [H4]; · iapply (stg_out c cc0_stg4_0 (sw m c)); iexact H4
  iapply (stg_out c cc0_stg5_0 (res m)); iexact H5

set_option maxRecDepth 8000 in
/-- The body meets the pipeline's obligation on every device. -/
theorem body_obligation (c : Dev nD) : BodyObligation (dats (F := F) m ρ 0 c) (defs₀ (F := F)) 𝒱₀ () Set.univ := fun t => by
  rw [fin_N t]
  rw [bigSep_W0, bigSep_W0]
  simp only [owns_whole_eq]
  show obPre m ρ c ⊢ wp frame (wpE (defs₀ (F := F)) 𝒱₀ c none) Set.univ
          (cc0_body (Memref.whole cc0_stg0_0) (Memref.isWhole_whole _) (Memref.whole cc0_stg1_0) (Memref.isWhole_whole _)
            (Memref.whole cc0_stg2_0) (Memref.isWhole_whole _) (Memref.whole cc0_stg3_0) (Memref.isWhole_whole _)
            (Memref.whole cc0_stg4_0) (Memref.isWhole_whole _) (Memref.whole cc0_stg5_0) (Memref.isWhole_whole _)
            (Memref.whole cc0_scratch0) (Memref.isWhole_whole _) (Memref.whole cc0_scratch1) (Memref.isWhole_whole _)
            cc0_scratch2 cc0_scratch3 cc0_scratch4 cc0_scratch5) (fun _ => obPost m ρ c)
  refine (pre_of m ρ c).trans ?_
  iintro ⟨%K, H⟩
  iapply (sound_body m K c fun _ => obPost m ρ c)
  isplitl [H]; · iexact H
  iintro H
  iapply (post_to m ρ c); iexact H

/-! ## The side conditions of the launch -/

theorem share_eq (c : Dev nD) (w : Fin cfg0.W) : (dats m ρ 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred (fun c => owe c 9) c ∗ prngReg c (ρ c) ∗ G' m c)
      ⊢ |={Set.univ}=> iprop(start m c ∗ emp) := by
  iintro ⟨-, Hlev, Hcr, -, HG⟩
  ihave Hc := (creds (F := F) c) $$ Hcr
  imodintro
  unfold start G'
  isplitl
  · isplitl [HG]; · iexact HG
    isplitl [Hc]; · iexact Hc
    iexact Hlev
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀ scratch
  iintro ⟨Hs, -, Hr⟩
  isplitl [Hs]; · iexact Hs
  iexact Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq, ownSems0_eq, unscopedSems0_eq]
  unfold Φ₁ scratch drained
  iintro ⟨Hr, HB, HS⟩
  isplitl [HB]; · iexact HB
  isplitl [HS]; · iexact HS
  iexact Hr

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> rfl) _ (by
      rcases t with ⟨_ | _, ht⟩
      · exact Or.inl rfl
      · exact Or.inr rfl)

/-! ## The run -/

/-- What device `c`'s array `w` ends at. -/
def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- For any float values, from any memory with zero counters: every weakly fair execution of the program on the four devices
    ends, and every final state has each array at the computed contents and every semaphore at zero. -/
theorem run_arrays : θ_run defs (onTc (τ := τ) (main (F := F))) (st₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := fun c => owe c 9) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

theorem finalA_0 (c : Dev nD) : finalA m ρ c (0 : Fin 6) = m ((c : Thread nD τ).loc main_arg0) := (dats (F := F) m ρ 0 c).arrAt_in (0 : Fin 6) rfl _
theorem finalA_1 (c : Dev nD) : finalA m ρ c (1 : Fin 6) = m ((c : Thread nD τ).loc main_arg1) := (dats (F := F) m ρ 0 c).arrAt_in (1 : Fin 6) rfl _
theorem finalA_2 (c : Dev nD) : finalA m ρ c (2 : Fin 6) = m ((c : Thread nD τ).loc main_arg2) := (dats (F := F) m ρ 0 c).arrAt_in (2 : Fin 6) rfl _
theorem finalA_3 (c : Dev nD) : finalA m ρ c (3 : Fin 6) = m ((c : Thread nD τ).loc main_arg3) := (dats (F := F) m ρ 0 c).arrAt_in (3 : Fin 6) rfl _
theorem finalA_4 (c : Dev nD) : finalA m ρ c (4 : Fin 6) = m ((c : Thread nD τ).loc main_arg4) := (dats (F := F) m ρ 0 c).arrAt_in (4 : Fin 6) rfl _

/-! ### Whole windows: a block is its array -/

theorem xs_eq (c : Dev nD) : xs m c = m ((c : Thread nD τ).loc main_arg0) :=
  funext fun y => congrArg (m ((c : Thread nD τ).loc main_arg0)) (show (win0_0.blk (0 : Fin 1)).view.emb y = y from funext fun a => Fin.ext (by
    fin_cases a <;> exact (Nat.zero_add _).trans (Nat.one_mul _)))
theorem rw'_eq (c : Dev nD) : rw' m c = m ((c : Thread nD τ).loc main_arg1) :=
  funext fun y => congrArg (m ((c : Thread nD τ).loc main_arg1)) (show (win0_1.blk (0 : Fin 1)).view.emb y = y from funext fun a => Fin.ext (by
    fin_cases a <;> exact (Nat.zero_add _).trans (Nat.one_mul _)))
theorem ri_eq (c : Dev nD) : ri m c = m ((c : Thread nD τ).loc main_arg2) :=
  funext fun y => congrArg (m ((c : Thread nD τ).loc main_arg2)) (show (win0_2.blk (0 : Fin 1)).view.emb y = y from funext fun a => Fin.ext (by
    fin_cases a <;> exact (Nat.zero_add _).trans (Nat.one_mul _)))
theorem ew_eq (c : Dev nD) : ew m c = m ((c : Thread nD τ).loc main_arg3) :=
  funext fun y => congrArg (m ((c : Thread nD τ).loc main_arg3)) (show (win0_3.blk (0 : Fin 1)).view.emb y = y from funext fun a => Fin.ext (by
    fin_cases a <;> exact (Nat.zero_add _).trans (Nat.one_mul _)))
theorem sw_eq (c : Dev nD) : sw m c = m ((c : Thread nD τ).loc main_arg4) :=
  funext fun y => congrArg (m ((c : Thread nD τ).loc main_arg4)) (show (win0_4.blk (0 : Fin 1)).view.emb y = y from funext fun a => Fin.ext (by
    fin_cases a <;> exact (Nat.zero_add _).trans (Nat.one_mul _)))

/-- The result array ends at `res`. -/
theorem finalA_5 (c : Dev nD) : finalA m ρ c (5 : Fin 6) = res m := by
  refine (dats (F := F) m ρ 0 c).arrAt_eq_of_covers (5 : Fin 6) (res m) (by decide +kernel) fun t hf y => ?_
  rw [fin_N t]
  refine congrArg (res m) (?_ : y = (win0_5.blk (0 : Fin 1)).view.emb y)
  exact funext fun a => Fin.ext (by fin_cases a <;> exact ((Nat.zero_add _).trans (Nat.one_mul _)).symm)

/-- The run, read at the program's arrays. -/
theorem run_main : θ_run defs (onTc (τ := τ) (main (F := F))) (st₀ m ρ) (fun r => (∀ c : Dev nD,
      r.2.mem ((c.tc : Thread nD τ).loc main_v1) = res m
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) ∧ r.2.sem = fun _ => 0) :=
  (θ_run defs _ _).mono (fun _ h => ⟨fun c => ⟨(h.1 c 5).trans (finalA_5 m ρ c), (h.1 c 0).trans (finalA_0 m ρ c), (h.1 c 1).trans (finalA_1 m ρ c),
    (h.1 c 2).trans (finalA_2 m ρ c), (h.1 c 3).trans (finalA_3 m ρ c), (h.1 c 4).trans (finalA_4 m ρ c)⟩, h.2⟩) (run_arrays m ρ)

end Cert.KernelIdeal.Run

end
-- ==== Proof.Value.Kernel.lean ====
/-
What the eight experts' kernel computes on a device, one element at a time, over the extended reals: the partial sums, which
weight the tokens before their product with the two experts of the device, and the finished rows.
-/
module

public import proofs.«01_k».proof.Proof.Value.Layer
public import proofs.«01_k».proof.Proof.KernelIdealRun.Main

@[expose] public section

noncomputable section

namespace Cert.KernelIdeal.Layer

open Cert.KernelIdeal Cert.KernelIdeal.Gen Cert.KernelIdeal.Run Cert.Layer
open Idealize.ShloMosaic Idealize.ShloMosaic.TcCoe Idealize.ShloMosaic.ValueIdx
open scoped BigOperators

/-! ## Products and sums over an axis -/

/-- The router's product. -/
theorem router_at (a : FVec Ideal S256x128 .f32) (b : FVec Ideal S128x8 .f32) (i : Fin 256) (e : Fin 8) :
    matmul dot_S256x128_S128x8_S256x8_1_0_0_1_n_n none a b (constant S256x8 .f32 0x00000000#32) (ix2 i e)
      = ∑ k : Fin 128, a (ix2 i k) * b (ix2 k e) := by
  simp only [matmul]
  rw [Ideal.matmul_constant_zero_apply,
    ← Equiv.sum_comp (ValueIdx.contrEquiv1 dot_S256x128_S128x8_S256x8_1_0_0_1_n_n 128 rfl rfl).symm]
  refine Finset.sum_congr rfl fun k _ => ?_
  refine congrArg₂ (· * ·) (congrArg a (funext fun d => Fin.ext ?_)) (congrArg b (funext fun d => Fin.ext ?_))
  · match d with
    | ⟨0, _⟩ =>
      unfold DotDims.lhsIdx
      rw [dif_neg (show ¬ (⟨0, by decide⟩ : Fin 2) ∈ dot_S256x128_S128x8_S256x8_1_0_0_1_n_n.lhsBatch by decide),
        dif_pos (show (⟨0, by decide⟩ : Fin 2) ∈ dot_S256x128_S128x8_S256x8_1_0_0_1_n_n.lhsNonContracting by decide)]
      rfl
    | ⟨1, _⟩ => exact (dot_S256x128_S128x8_S256x8_1_0_0_1_n_n.lhsIdx_val_of_single rfl (ix2 i e) _).trans (ValueIdx.contrEquiv1_symm_val _ 128 rfl rfl k)
  · match d with
    | ⟨0, _⟩ => exact (dot_S256x128_S128x8_S256x8_1_0_0_1_n_n.rhsIdx_val_of_single rfl (ix2 i e) _).trans (ValueIdx.contrEquiv1_symm_val _ 128 rfl rfl k)
    | ⟨1, _⟩ =>
      unfold DotDims.rhsIdx
      rw [dif_neg (show ¬ (⟨1, by decide⟩ : Fin 2) ∈ dot_S256x128_S128x8_S256x8_1_0_0_1_n_n.rhsBatch by decide),
        dif_pos (show (⟨1, by decide⟩ : Fin 2) ∈ dot_S256x128_S128x8_S256x8_1_0_0_1_n_n.rhsNonContracting by decide)]
      rfl

/-- The product of the stacked tokens with the two experts. -/
theorem experts_at (a b : FVec Ideal S256x256 .f32) (i o : Fin 256) :
    matmul dot_S256x256_S256x256_S256x256_1_0_0_1_n_n none a b (constant S256x256 .f32 0x00000000#32) (ix2 i o)
      = ∑ k : Fin 256, a (ix2 i k) * b (ix2 k o) := by
  simp only [matmul]
  rw [Ideal.matmul_constant_zero_apply,
    ← Equiv.sum_comp (ValueIdx.contrEquiv1 dot_S256x256_S256x256_S256x256_1_0_0_1_n_n 256 rfl rfl).symm]
  refine Finset.sum_congr rfl fun k _ => ?_
  refine congrArg₂ (· * ·) (congrArg a (funext fun d => Fin.ext ?_)) (congrArg b (funext fun d => Fin.ext ?_))
  · match d with
    | ⟨0, _⟩ =>
      unfold DotDims.lhsIdx
      rw [dif_neg (show ¬ (⟨0, by decide⟩ : Fin 2) ∈ dot_S256x256_S256x256_S256x256_1_0_0_1_n_n.lhsBatch by decide),
        dif_pos (show (⟨0, by decide⟩ : Fin 2) ∈ dot_S256x256_S256x256_S256x256_1_0_0_1_n_n.lhsNonContracting by decide)]
      rfl
    | ⟨1, _⟩ => exact (dot_S256x256_S256x256_S256x256_1_0_0_1_n_n.lhsIdx_val_of_single rfl (ix2 i o) _).trans (ValueIdx.contrEquiv1_symm_val _ 256 rfl rfl k)
  · match d with
    | ⟨0, _⟩ => exact (dot_S256x256_S256x256_S256x256_1_0_0_1_n_n.rhsIdx_val_of_single rfl (ix2 i o) _).trans (ValueIdx.contrEquiv1_symm_val _ 256 rfl rfl k)
    | ⟨1, _⟩ =>
      unfold DotDims.rhsIdx
      rw [dif_neg (show ¬ (⟨1, by decide⟩ : Fin 2) ∈ dot_S256x256_S256x256_S256x256_1_0_0_1_n_n.rhsBatch by decide),
        dif_pos (show (⟨1, by decide⟩ : Fin 2) ∈ dot_S256x256_S256x256_S256x256_1_0_0_1_n_n.rhsNonContracting by decide)]
      rfl

/-- The shared expert's product, of a device's own rows. -/
theorem own_at (a : FVec Ideal S64x128 .f32) (b : FVec Ideal S128x256 .f32) (p : Fin 64) (o : Fin 256) :
    matmul dot_S64x128_S128x256_S64x256_1_0_0_1_n_n none a b (constant S64x256 .f32 0x00000000#32) (ix2 p o)
      = ∑ k : Fin 128, a (ix2 p k) * b (ix2 k o) := by
  simp only [matmul]
  rw [Ideal.matmul_constant_zero_apply,
    ← Equiv.sum_comp (ValueIdx.contrEquiv1 dot_S64x128_S128x256_S64x256_1_0_0_1_n_n 128 rfl rfl).symm]
  refine Finset.sum_congr rfl fun k _ => ?_
  refine congrArg₂ (· * ·) (congrArg a (funext fun d => Fin.ext ?_)) (congrArg b (funext fun d => Fin.ext ?_))
  · match d with
    | ⟨0, _⟩ =>
      unfold DotDims.lhsIdx
      rw [dif_neg (show ¬ (⟨0, by decide⟩ : Fin 2) ∈ dot_S64x128_S128x256_S64x256_1_0_0_1_n_n.lhsBatch by decide),
        dif_pos (show (⟨0, by decide⟩ : Fin 2) ∈ dot_S64x128_S128x256_S64x256_1_0_0_1_n_n.lhsNonContracting by decide)]
      rfl
    | ⟨1, _⟩ => exact (dot_S64x128_S128x256_S64x256_1_0_0_1_n_n.lhsIdx_val_of_single rfl (ix2 p o) _).trans (ValueIdx.contrEquiv1_symm_val _ 128 rfl rfl k)
  · match d with
    | ⟨0, _⟩ => exact (dot_S64x128_S128x256_S64x256_1_0_0_1_n_n.rhsIdx_val_of_single rfl (ix2 p o) _).trans (ValueIdx.contrEquiv1_symm_val _ 128 rfl rfl k)
    | ⟨1, _⟩ =>
      unfold DotDims.rhsIdx
      rw [dif_neg (show ¬ (⟨1, by decide⟩ : Fin 2) ∈ dot_S64x128_S128x256_S64x256_1_0_0_1_n_n.rhsBatch by decide),
        dif_pos (show (⟨1, by decide⟩ : Fin 2) ∈ dot_S64x128_S128x256_S64x256_1_0_0_1_n_n.rhsNonContracting by decide)]
      rfl

/-- A row's place among the elements summed over its axis. -/
theorem lift_row (i : Fin 256) (e : Fin 8) : reduces_S256x8_S256.lift (ix1 i) e = ix2 i e := by
  funext a
  match a with
  | ⟨0, _⟩ => rfl
  | ⟨1, _⟩ => rfl

/-- The sum of a row of eight. -/
theorem rowSum_at (v : FVec Ideal S256x8 .f32) (i : Fin 256) :
    multiReduction .add [1] S256 v 0x00000000#32 reduces_S256x8_S256 (.inl rfl) rfl (ix1 i) = ∑ e : Fin 8, v (ix2 i e) :=
  (Ideal.multiReduction_add_single v _ reduces_S256x8_S256 (.inl rfl) rfl (ix1 i)).trans
    (Finset.sum_congr rfl fun e _ => congrArg v (lift_row i e))

/-- The greatest of a row of eight. -/
theorem rowMax_at (v : FVec Ideal S256x8 .f32) (i : Fin 256) :
    multiReduction .maximumf [1] S256 v 0xFF800000#32 reduces_S256x8_S256 (.inl rfl) rfl (ix1 i) = top (fun e => v (ix2 i e)) :=
  (Ideal.multiReduction_maximumf_single v _ reduces_S256x8_S256 (.inl rfl) rfl (ix1 i)).trans
    (congrArg (Finset.univ.fold max _) (funext fun e => congrArg v (lift_row i e)))

/-! ## Columns -/

variable {α : Type}

/-- A vector viewed as a column. -/
theorem column_at (v : S256.Idx → α) (i : Fin 256) : shapeCast S256x1 v shapeCasts_S256_S256x1 (ix2 i (0 : Fin 1)) = v (ix1 i) := by
  refine shapeCast_apply v _ _ _ ?_
  rw [Shape.rowMajor_val_one, Shape.rowMajor_val_two]
  show i.val = i.val * 1 + 0
  omega

/-- A column spread over eight places. -/
theorem spread8_at (v : S256x1.Idx → α) (i : Fin 256) (e : Fin 8) :
    broadcastTo S256x8 v broadcasts_S256x1_S256x8 (ix2 i e) = v (ix2 i (0 : Fin 1)) := by
  refine broadcastTo_apply v _ _ _ fun a => ?_
  match a with
  | ⟨0, _⟩ => rfl
  | ⟨1, _⟩ => rfl

/-- A column spread over a token's places. -/
theorem spread128_at (v : S256x1.Idx → α) (i : Fin 256) (k : Fin 128) :
    broadcastTo S256x128 v broadcasts_S256x1_S256x128 (ix2 i k) = v (ix2 i (0 : Fin 1)) := by
  refine broadcastTo_apply v _ _ _ fun a => ?_
  match a with
  | ⟨0, _⟩ => rfl
  | ⟨1, _⟩ => rfl

/-- Zero, as the kernel spells it. -/
theorem zero_word : (Scalar.ofBits .f32 0x00000000#32 : Ideal .f32) = (0 : EReal) := Ideal.ofBits_zero_f32

/-- A choice by whether two words are equal. -/
theorem pick_eq (a b : BitVec 32) (p q : EReal) : Scalar.select (IntOp.cmpi .eq a b) p q = if a = b then p else q := by
  by_cases h : a = b
  · rw [if_pos h, h]; simp [IntOp.cmpi, Scalar.select]
  · rw [if_neg h]; simp [IntOp.cmpi, Scalar.select, beq_eq_false_iff_ne.mpr h]

/-! ## The partial sums, in named steps -/

/-- The exponentials. -/
def exps (s t : FVec Ideal S256x8 .f32) : FVec Ideal S256x8 .f32 := exp (subf s t)
/-- The softmax weights. -/
def probs (s t : FVec Ideal S256x8 .f32) : FVec Ideal S256x8 .f32 :=
  divf (exps s t) (broadcastTo S256x8 (shapeCast S256x1
    (multiReduction .add [1] S256 (exps s t) 0x00000000#32 reduces_S256x8_S256 (.inl rfl) rfl) shapeCasts_S256_S256x1) broadcasts_S256x1_S256x8)
/-- The column of gates. -/
def gates (r : IVec S256x1 32) (w : FVec Ideal S256x8 .f32) : FVec Ideal S256x1 .f32 :=
  shapeCast S256x1 (multiReduction .add [1] S256
    (select (cmpi .eq (iota .tc S256x8 32 [1] iota_S256x8_d1_w32) (broadcastTo S256x8 r broadcasts_S256x1_S256x8)) w
      (broadcast S256x8 (Scalar.ofBits .f32 0x00000000#32))) 0x00000000#32 reduces_S256x8_S256 (.inl rfl) rfl) shapeCasts_S256_S256x1
/-- The tokens weighted for the expert that a word names. -/
def half (x : FVec Ideal S256x128 .f32) (r : IVec S256x1 32) (g : FVec Ideal S256x1 .f32) (u : BitVec 32) : FVec Ideal S256x128 .f32 :=
  mulf x (broadcastTo S256x128 (select (cmpi .eq r (broadcast S256x1 u)) g (broadcast S256x1 (Scalar.ofBits .f32 0x00000000#32)))
    broadcasts_S256x1_S256x128)
/-- The two weighted copies side by side. -/
def pair (a b : FVec Ideal S256x128 .f32) : FVec Ideal S256x256 .f32 :=
  concatenate S256x256 1 [⟨S256x128, a⟩, ⟨S256x128, b⟩] concatenates_S256x128_S256x128_S256x256_d1
/-- The two experts' weights one above the other. -/
def stack (W : FVec Ideal S2x128x256 .f32) : FVec Ideal S256x256 .f32 :=
  shapeCast S256x256 (shapeCast S2x128x256 W shapeCasts_S2x128x256_S2x128x256) shapeCasts_S2x128x256_S256x256

/-- The partial sums in those steps. -/
theorem pay5_eq (q : BitVec 32) (x : FVec Ideal S256x128 .f32) (r : IVec S256x1 32) (s t : FVec Ideal S256x8 .f32)
    (W : FVec Ideal S2x128x256 .f32) :
    k0_pay5 q x r s t W = shapeCast S256x256 (matmul dot_S256x256_S256x256_S256x256_1_0_0_1_n_n none
      (pair (half x r (gates r (probs s t)) (Scalar.addi (Scalar.muli q 2#32) 0#32))
        (half x r (gates r (probs s t)) (Scalar.addi (Scalar.muli q 2#32) 1#32)))
      (stack W) (constant S256x256 .f32 0x00000000#32)) shapeCasts_S256x256_S256x256 := rfl

theorem probs_at (s t : FVec Ideal S256x8 .f32) (f : Fin 8 → EReal) (i : Fin 256) (hs : ∀ e, s (ix2 i e) = f e)
    (ht : ∀ e, t (ix2 i e) = top f) (e : Fin 8) : probs s t (ix2 i e) = prob f e := by
  have he : ∀ e, exps s t (ix2 i e) = Ideal.exp (f e - top f) := fun e => by
    rw [← hs e, ← ht e]; rfl
  unfold probs prob
  rw [divf_apply, spread8_at, column_at, rowSum_at, he]
  exact congrArg (Ideal.div _) (Finset.sum_congr rfl fun k _ => he k)

theorem gates_at (r : IVec S256x1 32) (w : FVec Ideal S256x8 .f32) (i : Fin 256) :
    gates r w (ix2 i (0 : Fin 1)) = gate (fun e => w (ix2 i e)) (r (ix2 i (0 : Fin 1))) := by
  unfold gates gate
  rw [column_at, rowSum_at]
  refine Finset.sum_congr rfl fun e _ => ?_
  rw [select_apply, broadcast_apply, zero_word]
  have hc : cmpi .eq (iota .tc S256x8 32 [1] iota_S256x8_d1_w32) (broadcastTo S256x8 r broadcasts_S256x1_S256x8) (ix2 i e)
      = IntOp.cmpi .eq (BitVec.ofNat 32 e.val) (r (ix2 i (0 : Fin 1))) := by
    show IntOp.cmpi .eq (iota .tc S256x8 32 [1] iota_S256x8_d1_w32 (ix2 i e)) (broadcastTo S256x8 r broadcasts_S256x1_S256x8 (ix2 i e)) = _
    rw [spread8_at, iota_single_apply]
  rw [hc]
  exact pick_eq _ _ _ _

theorem half_at (x : FVec Ideal S256x128 .f32) (r : IVec S256x1 32) (g : FVec Ideal S256x1 .f32) (u : BitVec 32) (i : Fin 256)
    (k : Fin 128) : half x r g u (ix2 i k)
      = x (ix2 i k) * (if r (ix2 i (0 : Fin 1)) = u then g (ix2 i (0 : Fin 1)) else 0 : EReal) := by
  unfold half
  rw [mulf_apply, spread128_at, select_apply, broadcast_apply, zero_word]
  show x (ix2 i k) * Scalar.select (IntOp.cmpi .eq (r (ix2 i (0 : Fin 1))) u) (g (ix2 i (0 : Fin 1))) (0 : EReal) = _
  exact congrArg (x (ix2 i k) * ·) (pick_eq _ _ _ _)

theorem pair_left (a b : FVec Ideal S256x128 .f32) (i : Fin 256) (k : Fin 128) :
    pair a b (ix2 i (Fin.castAdd 128 k)) = a (ix2 i k) := by
  refine concatenate_pair_apply_left (t := S256x256) (s₁ := S256x128) (s₂ := S256x128) 1 a b _ _ rfl (ix2 i k) fun d => ?_
  match d with
  | ⟨0, _⟩ => rfl
  | ⟨1, _⟩ => rfl

theorem pair_right (a b : FVec Ideal S256x128 .f32) (i : Fin 256) (k : Fin 128) :
    pair a b (ix2 i (Fin.natAdd 128 k)) = b (ix2 i k) := by
  refine concatenate_pair_apply_right (t := S256x256) (s₁ := S256x128) (s₂ := S256x128) 1 a b _ _ rfl rfl (ix2 i k) (fun d hd => ?_) ?_
  · match d with
    | ⟨0, _⟩ => rfl
    | ⟨1, _⟩ => exact absurd rfl hd
  · exact Nat.add_comm _ _

theorem stack_at (W : FVec Ideal S2x128x256 .f32) (p : Fin 2) (k : Fin 128) (o : Fin 256) (j : Fin 256) (hj : j.val = 128 * p.val + k.val) :
    stack W (ix2 j o) = W (ix3 p k o) := by
  unfold stack
  rw [shapeCast_self]
  refine shapeCast_apply W _ _ _ ?_
  rw [Shape.rowMajor_val_three, Shape.rowMajor_val_two]
  show (p.val * 128 + k.val) * 256 + o.val = j.val * 256 + o.val
  omega

/-- The partial sums at an element: the two experts' products, each of the tokens weighted for it. -/
theorem pay5_at (q : BitVec 32) (x : FVec Ideal S256x128 .f32) (r : IVec S256x1 32) (s t : FVec Ideal S256x8 .f32)
    (W : FVec Ideal S2x128x256 .f32) (f : Fin 8 → EReal) (i o : Fin 256) (hs : ∀ e, s (ix2 i e) = f e)
    (ht : ∀ e, t (ix2 i e) = top f) (u : Fin 2 → BitVec 32) (hu0 : Scalar.addi (Scalar.muli q 2#32) 0#32 = u 0)
    (hu1 : Scalar.addi (Scalar.muli q 2#32) 1#32 = u 1) :
    k0_pay5 q x r s t W (ix2 i o)
      = (∑ k : Fin 128, (x (ix2 i k) * (if r (ix2 i (0 : Fin 1)) = u 0 then gate (prob f) (r (ix2 i (0 : Fin 1))) else 0 : EReal)) * W (ix3 (0 : Fin 2) k o))
        + ∑ k : Fin 128, (x (ix2 i k) * (if r (ix2 i (0 : Fin 1)) = u 1 then gate (prob f) (r (ix2 i (0 : Fin 1))) else 0 : EReal)) * W (ix3 (1 : Fin 2) k o) := by
  have hg : gates r (probs s t) (ix2 i (0 : Fin 1)) = gate (prob f) (r (ix2 i (0 : Fin 1))) := by
    rw [gates_at]
    exact congrArg (fun p => gate p (r (ix2 i (0 : Fin 1)))) (funext fun e => probs_at s t f i hs ht e)
  rw [pay5_eq, shapeCast_self, experts_at, hu0, hu1]
  refine (Fin.sum_univ_add (a := 128) (b := 128) _).trans ?_
  refine congrArg₂ (· + ·) (Finset.sum_congr rfl fun k _ => ?_) (Finset.sum_congr rfl fun k _ => ?_)
  · rw [pair_left, half_at, hg, stack_at W 0 k o _ (by show k.val = 128 * 0 + k.val; omega)]
  · rw [pair_right, half_at, hg, stack_at W 1 k o _ (by show 128 + k.val = 128 * 1 + k.val; omega)]

/-! ## The router's steps -/

theorem pay1_eq (x : FVec Ideal S256x128 .f32) : k0_pay1 x = x := shapeCast_self _ _
theorem pay2_eq (r : IVec S256x1 32) : k0_pay2 (F := Ideal) r = r := shapeCast_self _ _
theorem pay3_at (x : FVec Ideal S256x128 .f32) (w : FVec Ideal S128x8 .f32) (i : Fin 256) (e : Fin 8) :
    k0_pay3 (F := Ideal) x w (ix2 i e) = score x w i e := by
  unfold k0_pay3
  rw [pay1_eq, shapeCast_self, router_at]
  rfl
theorem pay4_at (x : FVec Ideal S256x128 .f32) (w : FVec Ideal S128x8 .f32) (i : Fin 256) (e : Fin 8) :
    k0_pay4 (F := Ideal) x w (ix2 i e) = top (score x w i) := by
  unfold k0_pay4
  rw [spread8_at, column_at, rowMax_at]
  exact congrArg top (funext fun e => pay3_at x w i e)

/-! ## The partial sums of a device -/

/-- The experts of device `c`. -/
def exp0 (c : Dev nD) : Fin 8 := ⟨2 * c.val, by have h : c.val < 4 := c.isLt; omega⟩
def exp1 (c : Dev nD) : Fin 8 := ⟨2 * c.val + 1, by have h : c.val < 4 := c.isLt; omega⟩

theorem word0 : ∀ c : Dev nD, Scalar.addi (Scalar.muli (place c) 2#32) 0#32 = BitVec.ofNat 32 (exp0 c).val := by decide
theorem word1 : ∀ c : Dev nD, Scalar.addi (Scalar.muli (place c) 2#32) 1#32 = BitVec.ofNat 32 (exp1 c).val := by decide

variable (m : (ℓ : Loc nD τ sig) → Buf (Elt Ideal) ℓ)

/-- What every device starts with, of the whole arrays: all of the tokens, of the router's weights, of the routes and of the
shared expert's weights, and its own two experts' weights. -/
structure Holds (x : Tok) (w : Rtr) (r : (⟨2, ![256, 1]⟩ : Shape).Idx → BitVec 32) (W : Exps) (S : Shr) : Prop where
  x : ∀ c, xs m c = x
  w : ∀ c, rw' m c = w
  r : ∀ c, ri m c = r
  W0 : ∀ c k o, ew m c (ix3 (0 : Fin 2) k o) = W (ix3 (exp0 c) k o)
  W1 : ∀ c k o, ew m c (ix3 (1 : Fin 2) k o) = W (ix3 (exp1 c) k o)
  S : ∀ c, sw m c = S

/-- Device `c`'s partial sums, as extended reals. -/
def psum (c : Dev nD) (i o : Fin 256) : EReal := part m c (ix2 i o)

variable {m} {x : Tok} {w : Rtr} {r : (⟨2, ![256, 1]⟩ : Shape).Idx → BitVec 32} {W : Exps} {S : Shr}

/-- Device `c`'s partial sums: what its two experts contribute. -/
theorem part_at (H : Holds m x w r W S) (c : Dev nD) (i o : Fin 256) :
    psum m c i o = term x W i o (coef (prob (score x w i)) (r (ix2 i (0 : Fin 1))) (exp0 c)) (exp0 c)
      + term x W i o (coef (prob (score x w i)) (r (ix2 i (0 : Fin 1))) (exp1 c)) (exp1 c) := by
  unfold psum part
  rw [H.x, H.w, H.r, pay1_eq, pay2_eq]
  refine (pay5_at (place c) x r (k0_pay3 x w) (k0_pay4 x w) (ew m c) (score x w i) i o (pay3_at x w i) (pay4_at x w i)
    (fun p => if p = 0 then BitVec.ofNat 32 (exp0 c).val else BitVec.ofNat 32 (exp1 c).val) (word0 c) (word1 c)).trans ?_
  unfold term
  refine congrArg₂ (· + ·) (Finset.sum_congr rfl fun k _ => ?_) (Finset.sum_congr rfl fun k _ => ?_)
  · rw [H.W0]; rfl
  · rw [H.W1]; rfl

/-! ## The finished rows -/

/-- A landing slot viewed without its leading axis. -/
theorem slot_at (v : FVec Ideal S1x64x256 .f32) (p : Fin 64) (o : Fin 256) :
    shapeCast S64x256 v shapeCasts_S1x64x256_S64x256 (ix2 p o) = v (ix3 (0 : Fin 1) p o) := by
  refine shapeCast_apply v _ _ _ ?_
  rw [Shape.rowMajor_val_three, Shape.rowMajor_val_two]
  show (0 * 64 + p.val) * 256 + o.val = p.val * 256 + o.val
  omega

/-- What a load of slot `j` reads: the partial sums of the device `j + 1` places before, at the device's own rows. -/
theorem landAt_at (c : Dev nD) (j : Fin 3) (p : Fin 64) (o : Fin 256) :
    landAt m c j (ix3 (0 : Fin 1) p o) = part m (bwd c j) (at2 c (ix2 p o)) := by
  rw [← land_at3]
  refine congrArg (land m c) (funext fun a => Fin.ext ?_)
  match a with
  | ⟨0, _⟩ => show j.val + 1 * 0 = j.val; omega
  | ⟨1, _⟩ => show 0 + 1 * p.val = p.val; omega
  | ⟨2, _⟩ => show 0 + 1 * o.val = o.val; omega

/-- The row of device `c`. -/
def row (c : Dev nD) (p : Fin 64) : Fin 256 := ⟨64 * c.val + p.val, by have h1 : c.val < 4 := c.isLt; have h2 := p.isLt; omega⟩

theorem at2_eq (c : Dev nD) (p : Fin 64) (o : Fin 256) : at2 c (ix2 p o) = ix2 (row c p) o := rfl

/-- A load of a device's own rows of the tokens reads them there. -/
theorem ownTok_at (c : Dev nD) (f : (cc0_stg0_0 : Ref sig .tc).ty.Contents (Elt Ideal)) (p : Fin 64) (k : Fin 128) :
    (xB : Memref sig .tc .vmem S256x128 .f32).view.readAt (Elt Ideal) (xR c).toLoadRect f (ix2 p k) = f (ix2 (row c p) k) := by
  have h : ∀ c : Dev nD, k0_off2 c = ![64 * c.val, 0] := by decide
  refine congrArg f (funext fun a => Fin.ext ?_)
  match a with
  | ⟨0, _⟩ =>
    show k0_off2 c 0 + 1 * p.val = 64 * c.val + p.val
    rw [h]; show 64 * c.val + 1 * p.val = _; omega
  | ⟨1, _⟩ =>
    show k0_off2 c 1 + 1 * k.val = k.val
    rw [h]; show 0 + 1 * k.val = _; omega

/-- The sum of a device's rows with the shared expert's product and three landed slots. -/
theorem pay7_at (a : FVec Ideal S64x128 .f32) (b : FVec Ideal S64x256 .f32) (S : FVec Ideal S128x256 .f32)
    (l0 l1 l2 : FVec Ideal S1x64x256 .f32) (p : Fin 64) (o : Fin 256) :
    k0_pay7 (k0_pay6 a b S l0) l1 l2 (ix2 p o)
      = (((b (ix2 p o) + ∑ k : Fin 128, a (ix2 p k) * S (ix2 k o)) + l0 (ix3 (0 : Fin 1) p o)) + l1 (ix3 (0 : Fin 1) p o))
        + l2 (ix3 (0 : Fin 1) p o) := by
  unfold k0_pay7 k0_pay6
  rw [addf_apply, addf_apply, addf_apply, addf_apply, slot_at, slot_at, slot_at, shapeCast_self, shapeCast_self, own_at]

/-- Device `c`'s finished rows: its own partial sums, the shared expert's product, and the other three devices' partial sums. -/
theorem fin_at (H : Holds m x w r W S) (c : Dev nD) (p : Fin 64) (o : Fin 256) :
    fin m c (ix2 p o) = (((psum m c (row c p) o + shared x S (row c p) o) + psum m (bwd c 0) (row c p) o)
      + psum m (bwd c 1) (row c p) o) + psum m (bwd c 2) (row c p) o := by
  unfold fin
  refine (pay7_at _ _ _ _ _ _ p o).trans ?_
  refine congrArg₂ (· + ·) (congrArg₂ (· + ·) (congrArg₂ (· + ·) (congrArg₂ (· + ·) ?_ ?_) ?_) ?_) ?_
  · exact load_rows c (part m c) (ix2 p o)
  · refine Finset.sum_congr rfl fun k _ => congrArg₂ (· * ·) ?_ ?_
    · rw [H.x]; exact ownTok_at c x p k
    · rw [H.S]
  · exact landAt_at c 0 p o
  · exact landAt_at c 1 p o
  · exact landAt_at c 2 p o

end Cert.KernelIdeal.Layer

end
-- ==== Proof.Value.Reference.lean ====
/-
What the reference computes, one element at a time, over the extended reals: the shared expert's product plus, of a token that
is routed to one of the eight experts, that expert's softmax weight times its product; of any other token, plus zero times
some product.
-/
module

public import proofs.«01_k».proof.Proof.Value.Layer
public import proofs.«01_k».proof.Proof.Gen.ReferenceIdeal.Read
public import Idealize.ShloMosaic.Lib.KernelVsHost

@[expose] public section

noncomputable section

namespace Cert.ReferenceIdeal.Layer

open Cert.ReferenceIdeal Cert.ReferenceIdeal.Gen Cert.ReferenceIdeal.Read Cert.Layer
open Idealize.ShloMosaic Idealize.ShloMosaic.ValueIdx
open scoped BigOperators

variable (x : FVec Ideal S256x128 .f32) (w : FVec Ideal S128x8 .f32) (r : IVec S256x1 32)
  (W : FVec Ideal S8x128x256 .f32) (S : FVec Ideal S128x256 .f32)

/-- The scores. -/
theorem scores_at (i : Fin 256) (e : Fin 8) : val_main_v0 (F := Ideal) x w (ix2 i e) = score x w i e := by
  rw [val_main_v0_apply]
  refine Finset.sum_congr rfl fun k _ => ?_
  rw [eq_ix2 (lidx_main_v0 (ix2 i e) k), eq_ix2 (ridx_main_v0 (ix2 i e) k)]
  rfl

/-- The greatest score of a token. -/
theorem top_at (i : Fin 256) : val_main_v1 (F := Ideal) x w (ix1 i) = top (score x w i) := by
  unfold val_main_v1 val_main_cst
  refine (congrFun (hostReduce_maximumf_eq_multiReduction (F := Ideal) (φ := .f32) (s := S256x8) (val_main_v0 (F := Ideal) x w) 0xFF800000#32
    reducesTo_S256x8_S256_d1 h_S_ (by decide) (.inl rfl) rfl) (ix1 i)).trans ?_
  refine (Ideal.multiReduction_maximumf_single _ _ _ _ _ _).trans ?_
  unfold top
  refine congrArg (Finset.univ.fold max _) (funext fun e : Fin 8 => ?_)
  refine Eq.trans (congrArg (val_main_v0 (F := Ideal) x w) (a₂ := ix2 i e) (funext fun a => Fin.ext ?_)) (scores_at x w i e)
  match a with
  | ⟨0, _⟩ => rfl
  | ⟨1, _⟩ => rfl

/-- The exponentials. -/
theorem exp_at (i : Fin 256) (e : Fin 8) :
    val_main_v5 (F := Ideal) x w (ix2 i e) = Ideal.exp (score x w i e - top (score x w i)) := by
  rw [val_main_v5_apply, val_main_v4_apply, val_main_v3_apply, val_main_v2_apply, scores_at, ← top_at x w i,
    eq_ix1 (idx_main_v2 (idx_main_v3 (ix2 i e)))]
  rfl

/-- The softmax weights. -/
theorem prob_at (i : Fin 256) (e : Fin 8) : val_main_v9 (F := Ideal) x w (ix2 i e) = prob (score x w i) e := by
  rw [val_main_v9_apply, val_main_v8_apply, val_main_v7_apply, val_main_v6_apply, exp_at]
  unfold prob
  rw [Ideal.hostDivf_def]
  refine congrArg (Ideal.div _) ?_
  have h0 : val_main_cst_0 (F := Ideal) (Shape.Idx.first h_S_) = 0 := Ideal.ofBits_zero_f32
  rw [h0, zero_add]
  refine Finset.sum_congr rfl fun k _ => ?_
  rw [← exp_at, eq_ix2 (idx_main_v6 (idx_main_v7 (idx_main_v8 (ix2 i e))) k)]
  rfl

/-- The shared expert's product. -/
theorem shared_at (i o : Fin 256) : val_main_v10 (F := Ideal) x S (ix2 i o) = shared x S i o := by
  rw [val_main_v10_apply]
  refine Finset.sum_congr rfl fun k _ => ?_
  rw [eq_ix2 (lidx_main_v10 (ix2 i o) k), eq_ix2 (ridx_main_v10 (ix2 i o) k)]
  rfl

/-! ## The two gathers -/

/-- The route that the second gather reads is the token's own. -/
theorem route_at (i : Fin 256) : val_main_call2_v0 (F := Ideal) r (ix2 i (0 : Fin 1)) = r (ix2 i (0 : Fin 1)) := by
  rw [val_main_call2_v0_apply, val_main_v18_apply]
  refine congrArg r (funext fun a => Fin.ext ?_)
  match a with
  | ⟨0, _⟩ => exact Nat.div_one _
  | ⟨1, _⟩ => rfl

/-- The route that the first gather reads, of a token routed to expert `e`, is `e`. -/
theorem wrapped_at (i : Fin 256) (e : Fin 8) (he : r (ix2 i (0 : Fin 1)) = BitVec.ofNat 32 e.val) :
    val_main_call0_v5 (F := Ideal) r (ix3 i (0 : Fin 1) (0 : Fin 1)) = BitVec.ofNat 32 e.val := by
  have hi : idx_main_call0_v5 (ix3 i (0 : Fin 1) (0 : Fin 1)) = ix2 i (0 : Fin 1) := by
    funext a
    match a with
    | ⟨0, _⟩ => exact Fin.ext (by show ((i.val * 1 + 0) * 1 + 0) / 1 = i.val; omega)
    | ⟨1, _⟩ => rfl
  rw [val_main_call0_v5_apply, hi, val_main_call0_v4_apply, val_main_call0_v3_apply, val_main_call0_v1_apply,
    val_main_call0_v0_apply, val_main_call0_c_apply, he]
  have hs : IntOp.cmpi .slt (BitVec.ofNat 32 e.val) 0#32 = 0#1 := by clear he; revert e; decide
  rw [hs]
  rfl

/-- A word of one of the eight experts, read signed and clamped to eight, is the expert. -/
theorem clamp_word (e : Fin 8) : min (BitVec.ofNat 32 e.val).toInt.toNat 7 = e.val := by revert e; decide

/-- The softmax weight gathered for a token routed to expert `e`. -/
theorem picked_at (i : Fin 256) (e : Fin 8) (he : r (ix2 i (0 : Fin 1)) = BitVec.ofNat 32 e.val) :
    val_main_v16 (F := Ideal) x w r (ix2 i (0 : Fin 1)) = prob (score x w i) e := by
  rw [← prob_at]
  unfold val_main_v16 Host.gather
  refine congrArg (val_main_v9 (F := Ideal) x w) (funext fun a => Fin.ext ?_)
  match a with
  | ⟨0, _⟩ =>
    show GatherDims.start gather_S256x8_S256x1x1_S256x1_n_1_0_0_1_2_11 _ _ (0 : Fin 2)
      + GatherDims.batchCoord gather_S256x8_S256x1x1_S256x1_n_1_0_0_1_2_11 _ (0 : Fin 2)
      + GatherDims.offCoord gather_S256x8_S256x1x1_S256x1_n_1_0_0_1_2_11 _ (0 : Fin 2) = i.val
    rw [GatherDims.start_batching _ _ _ _ (List.mem_singleton.mpr rfl),
      GatherDims.offCoord_eq_zero _ _ _ (fun h => ((GatherDims.mem_sKept _ _).mp h).2 (List.mem_singleton.mpr rfl))]
    rw [Nat.zero_add, Nat.add_zero]
    unfold GatherDims.batchCoord
    rw [dif_pos (show (0 : Fin 2) ∈ GatherDims.operandBatchingDims gather_S256x8_S256x1x1_S256x1_n_1_0_0_1_2_11 by decide)]
    rfl
  | ⟨1, _⟩ =>
    show GatherDims.start gather_S256x8_S256x1x1_S256x1_n_1_0_0_1_2_11 _ _ (1 : Fin 2)
      + GatherDims.batchCoord gather_S256x8_S256x1x1_S256x1_n_1_0_0_1_2_11 _ (1 : Fin 2)
      + GatherDims.offCoord gather_S256x8_S256x1x1_S256x1_n_1_0_0_1_2_11 _ (1 : Fin 2) = e.val
    rw [GatherDims.batchCoord_eq_zero _ _ _ (fun h => absurd (List.mem_singleton.mp h) (by decide)),
      GatherDims.offCoord_eq_zero _ _ _ (fun h => ((GatherDims.mem_sKept _ _).mp h).1 (List.mem_singleton.mpr rfl))]
    simp only [Nat.add_zero]
    unfold GatherDims.start
    rw [dif_pos (show (1 : Fin 2) ∈ GatherDims.startIndexMap gather_S256x8_S256x1x1_S256x1_n_1_0_0_1_2_11 by decide)]
    have hsi : ∀ h, GatherDims.siIdx gather_S256x8_S256x1x1_S256x1_n_1_0_0_1_2_11 (ix2 i (0 : Fin 1))
        ⟨List.idxOf (1 : Fin 2) [(1 : Fin 2)], h⟩ = ix3 i (0 : Fin 1) (0 : Fin 1) := by
      intro h
      funext b
      refine Fin.ext ?_
      match b with
      | ⟨0, _⟩ => rfl
      | ⟨1, _⟩ => rfl
      | ⟨2, _⟩ => rfl
    exact (congrArg (fun t => min (val_main_call0_v5 (F := Ideal) r t).toInt.toNat 7) (hsi _)).trans
      ((congrArg (fun t => min (BitVec.toInt t).toNat 7) (wrapped_at r i e he)).trans (clamp_word e))

/-- The expert's weights gathered for a token routed to expert `e`. -/
theorem chosen_at (i : Fin 256) (k : Fin 128) (o : Fin 256) (e : Fin 8) (he : r (ix2 i (0 : Fin 1)) = BitVec.ofNat 32 e.val) :
    val_main_v19 (F := Ideal) r W (ix3 i k o) = W (ix3 e k o) := by
  unfold val_main_v19 Host.gather
  refine congrArg W (funext fun a => Fin.ext ?_)
  have hb : ∀ a : Fin 3, GatherDims.batchCoord gather_S8x128x256_S256x1_S256x128x256_12_0_n_n_0_1_1128256 (ix3 i k o) a = 0 :=
    fun a => GatherDims.batchCoord_eq_zero _ _ _ (fun h => nomatch h)
  match a with
  | ⟨0, _⟩ =>
    show GatherDims.start gather_S8x128x256_S256x1_S256x128x256_12_0_n_n_0_1_1128256 _ _ (0 : Fin 3)
      + GatherDims.batchCoord gather_S8x128x256_S256x1_S256x128x256_12_0_n_n_0_1_1128256 _ (0 : Fin 3)
      + GatherDims.offCoord gather_S8x128x256_S256x1_S256x128x256_12_0_n_n_0_1_1128256 _ (0 : Fin 3) = e.val
    rw [hb, GatherDims.offCoord_eq_zero _ _ _ (fun h => ((GatherDims.mem_sKept _ _).mp h).1 (List.mem_singleton.mpr rfl))]
    simp only [Nat.add_zero]
    unfold GatherDims.start
    rw [dif_pos (show (0 : Fin 3) ∈ GatherDims.startIndexMap gather_S8x128x256_S256x1_S256x128x256_12_0_n_n_0_1_1128256 by decide)]
    have hsi : ∀ h, GatherDims.siIdx gather_S8x128x256_S256x1_S256x128x256_12_0_n_n_0_1_1128256 (ix3 i k o)
        ⟨List.idxOf (0 : Fin 3) [(0 : Fin 3)], h⟩ = ix2 i (0 : Fin 1) := by
      intro h
      funext b
      refine Fin.ext ?_
      match b with
      | ⟨0, _⟩ => rfl
      | ⟨1, _⟩ => rfl
    exact (congrArg (fun t => min (val_main_call2_v0 (F := Ideal) r t).toInt.toNat 7) (hsi _)).trans
      ((congrArg (fun t => min (BitVec.toInt t).toNat 7) ((route_at r i).trans he)).trans (clamp_word e))
  | ⟨1, _⟩ =>
    show GatherDims.start gather_S8x128x256_S256x1_S256x128x256_12_0_n_n_0_1_1128256 _ _ (1 : Fin 3)
      + GatherDims.batchCoord gather_S8x128x256_S256x1_S256x128x256_12_0_n_n_0_1_1128256 _ (1 : Fin 3)
      + GatherDims.offCoord gather_S8x128x256_S256x1_S256x128x256_12_0_n_n_0_1_1128256 _ (1 : Fin 3) = k.val
    rw [hb]
    unfold GatherDims.start
    rw [dif_neg (show (1 : Fin 3) ∉ GatherDims.startIndexMap gather_S8x128x256_S256x1_S256x128x256_12_0_n_n_0_1_1128256 by decide), Nat.add_zero, Nat.zero_add]
    rfl
  | ⟨2, _⟩ =>
    show GatherDims.start gather_S8x128x256_S256x1_S256x128x256_12_0_n_n_0_1_1128256 _ _ (2 : Fin 3)
      + GatherDims.batchCoord gather_S8x128x256_S256x1_S256x128x256_12_0_n_n_0_1_1128256 _ (2 : Fin 3)
      + GatherDims.offCoord gather_S8x128x256_S256x1_S256x128x256_12_0_n_n_0_1_1128256 _ (2 : Fin 3) = o.val
    rw [hb]
    unfold GatherDims.start
    rw [dif_neg (show (2 : Fin 3) ∉ GatherDims.startIndexMap gather_S8x128x256_S256x1_S256x128x256_12_0_n_n_0_1_1128256 by decide), Nat.add_zero, Nat.zero_add]
    rfl

/-! ## The result -/

/-- Whether a token is routed to one of the eight experts, as the reference asks it. -/
theorem mask_at (i : Fin 256) : val_main_v15 (F := Ideal) r (ix2 i (0 : Fin 1))
    = IntOp.andi (IntOp.cmpi .sge (r (ix2 i (0 : Fin 1))) 0#32) (IntOp.cmpi .slt (r (ix2 i (0 : Fin 1))) 8#32) := by
  rw [val_main_v15_apply, val_main_v12_apply, val_main_v14_apply, val_main_v11_apply, val_main_v13_apply, val_main_c_apply,
    val_main_c_1_apply]

/-- The gate, where the reference spreads it. -/
theorem spread_at (i o : Fin 256) :
    val_main_v21 (F := Ideal) x w r (ix2 i o)
      = Scalar.select (val_main_v15 (F := Ideal) r (ix2 i (0 : Fin 1))) (val_main_v16 (F := Ideal) x w r (ix2 i (0 : Fin 1))) 0 := by
  have hi : idx_main_v21 (ix2 i o) = ix2 i (0 : Fin 1) := by
    funext a
    match a with
    | ⟨0, _⟩ => rfl
    | ⟨1, _⟩ => rfl
  rw [val_main_v21_apply, hi, val_main_v17_apply, val_main_call1_v1_apply, val_main_call1_v0_apply, val_main_cst_2_apply]
  show Scalar.select _ _ (Ideal.ofBits .f32 0x00000000#32) = _
  rw [Ideal.ofBits_zero_f32]

/-- Of a token routed to expert `e`. -/
theorem result_of_word (i o : Fin 256) (e : Fin 8) (he : r (ix2 i (0 : Fin 1)) = BitVec.ofNat 32 e.val) :
    val_main_v23 (F := Ideal) x w r W S (ix2 i o) = shared x S i o + prob (score x w i) e * product x W i o e := by
  rw [val_main_v23_apply, val_main_v22_apply, shared_at, spread_at, mask_at, he, picked_at x w r i e he, val_main_v20_apply]
  have hm : IntOp.andi (IntOp.cmpi .sge (BitVec.ofNat 32 e.val) 0#32) (IntOp.cmpi .slt (BitVec.ofNat 32 e.val) 8#32) = 1#1 := by
    clear he; revert e; decide
  rw [hm]
  refine congrArg (fun t => shared x S i o + prob (score x w i) e * t) (Finset.sum_congr rfl fun k _ => ?_)
  rw [eq_ix2 (lidx_main_v20 (ix2 i o) k), eq_ix3 (ridx_main_v20 (ix2 i o) k), ← chosen_at r W i k o e he]
  rfl

/-- A word that lies between zero and seven, read signed, is one of the eight experts'. -/
theorem word_of_mask {v : BitVec 32} (h : IntOp.andi (IntOp.cmpi .sge v 0#32) (IntOp.cmpi .slt v 8#32) ≠ 0#1) :
    ∃ e : Fin 8, v = BitVec.ofNat 32 e.val := by
  have h0 : (0#32).sle v = true := by
    by_contra hc
    refine h ?_
    unfold IntOp.cmpi IntOp.andi
    simp only [Bool.not_eq_true] at hc
    simp [hc]
  have h8 : v.slt 8#32 = true := by
    by_contra hc
    refine h ?_
    unfold IntOp.cmpi IntOp.andi
    simp only [Bool.not_eq_true] at hc
    simp [hc]
  have h2 : v.toNat < 8 := by
    rw [BitVec.sle_iff_toInt_le] at h0
    rw [BitVec.slt_iff_toInt_lt] at h8
    have e0 : (0#32 : BitVec 32).toInt = 0 := by decide
    have e8 : (8#32 : BitVec 32).toInt = 8 := by decide
    rw [e0] at h0
    rw [e8] at h8
    rw [BitVec.toInt_eq_toNat_cond] at h0 h8
    have := v.isLt
    split_ifs at h0 h8 <;> omega
  exact ⟨⟨v.toNat, h2⟩, BitVec.eq_of_toNat_eq (by simp)⟩

/-- Of a token routed to none. -/
theorem result_of_no_word (i o : Fin 256) (hr : ∀ e : Fin 8, r (ix2 i (0 : Fin 1)) ≠ BitVec.ofNat 32 e.val) :
    val_main_v23 (F := Ideal) x w r W S (ix2 i o) = shared x S i o + 0 := by
  have hm : IntOp.andi (IntOp.cmpi .sge (r (ix2 i (0 : Fin 1))) 0#32) (IntOp.cmpi .slt (r (ix2 i (0 : Fin 1))) 8#32) = 0#1 := by
    by_contra h
    obtain ⟨e, he⟩ := word_of_mask h
    exact hr e he
  rw [val_main_v23_apply, val_main_v22_apply, shared_at, spread_at, mask_at, hm]
  exact congrArg (fun t => shared x S i o + t) (zero_mul _)

end Cert.ReferenceIdeal.Layer

end
-- ==== Proof.Value.Equation.lean ====
/-
The two programs' results are equal: the finished rows add up what all eight experts contribute, whatever device's rows they
are, and of a token only the contribution of the expert it is routed to is left.
-/
module

public import proofs.«01_k».proof.Proof.Value.Kernel
public import proofs.«01_k».proof.Proof.Value.Reference

@[expose] public section

noncomputable section

namespace Cert.KernelIdeal.Layer

open Cert.KernelIdeal Cert.KernelIdeal.Gen Cert.KernelIdeal.Run Cert.Layer
open Idealize.ShloMosaic Idealize.ShloMosaic.TcCoe Idealize.ShloMosaic.ValueIdx
open scoped BigOperators

variable {m : (ℓ : Loc nD τ sig) → Buf (Elt Ideal) ℓ}
variable {x : Tok} {w : Rtr} {r : (⟨2, ![256, 1]⟩ : Shape).Idx → BitVec 32} {W : Exps} {S : Shr}

/-- The experts of a device and of the three devices before it, for each device. -/
theorem experts_of : ∀ c : Dev nD,
    (exp0 c = 0 ∧ exp1 c = 1 ∧ exp0 (bwd c 0) = 6 ∧ exp1 (bwd c 0) = 7 ∧ exp0 (bwd c 1) = 4 ∧ exp1 (bwd c 1) = 5 ∧ exp0 (bwd c 2) = 2 ∧ exp1 (bwd c 2) = 3) ∨
    (exp0 c = 2 ∧ exp1 c = 3 ∧ exp0 (bwd c 0) = 0 ∧ exp1 (bwd c 0) = 1 ∧ exp0 (bwd c 1) = 6 ∧ exp1 (bwd c 1) = 7 ∧ exp0 (bwd c 2) = 4 ∧ exp1 (bwd c 2) = 5) ∨
    (exp0 c = 4 ∧ exp1 c = 5 ∧ exp0 (bwd c 0) = 2 ∧ exp1 (bwd c 0) = 3 ∧ exp0 (bwd c 1) = 0 ∧ exp1 (bwd c 1) = 1 ∧ exp0 (bwd c 2) = 6 ∧ exp1 (bwd c 2) = 7) ∨
    (exp0 c = 6 ∧ exp1 c = 7 ∧ exp0 (bwd c 0) = 4 ∧ exp1 (bwd c 0) = 5 ∧ exp0 (bwd c 1) = 2 ∧ exp1 (bwd c 1) = 3 ∧ exp0 (bwd c 2) = 0 ∧ exp1 (bwd c 2) = 1) := by decide

/-- The sum over the eight experts, two to a device. -/
theorem sum_devices (f : Fin 8 → EReal) (c : Dev nD) (s : EReal) :
    ((((f (exp0 c) + f (exp1 c)) + s) + (f (exp0 (bwd c 0)) + f (exp1 (bwd c 0)))) + (f (exp0 (bwd c 1)) + f (exp1 (bwd c 1))))
      + (f (exp0 (bwd c 2)) + f (exp1 (bwd c 2))) = s + ∑ e : Fin 8, f e := by
  rw [Fin.sum_univ_eight]
  rcases experts_of c with ⟨h0, h1, h2, h3, h4, h5, h6, h7⟩ | ⟨h0, h1, h2, h3, h4, h5, h6, h7⟩ | ⟨h0, h1, h2, h3, h4, h5, h6, h7⟩ | ⟨h0, h1, h2, h3, h4, h5, h6, h7⟩ <;>
  · rw [h0, h1, h2, h3, h4, h5, h6, h7]
    ac_rfl

/-- Every row is some device's. -/
theorem exists_row (i : Fin 256) : ∃ (c : Dev nD) (p : Fin 64), row c p = i :=
  ⟨⟨i.val / 64, by have := i.isLt; show i.val / 64 < 4; omega⟩, ⟨i.val % 64, Nat.mod_lt _ (by decide)⟩,
    Fin.ext (by show 64 * (i.val / 64) + i.val % 64 = i.val; omega)⟩

/-- The result: the shared expert's product plus what the eight experts contribute. -/
theorem res_at (H : Holds m x w r W S) (i o : Fin 256) :
    res m (ix2 i o) = shared x S i o
      + ∑ e : Fin 8, term x W i o (coef (prob (score x w i)) (r (ix2 i (0 : Fin 1))) e) e := by
  obtain ⟨c, p, rfl⟩ := exists_row i
  refine ((congrArg (res m) (at2_eq c p o).symm).trans (res_at2 m c (ix2 p o))).trans ?_
  rw [fin_at H]
  rw [part_at H, part_at H, part_at H, part_at H]
  exact sum_devices (fun e => term x W (row c p) o (coef (prob (score x w (row c p))) (r (ix2 (row c p) (0 : Fin 1))) e) e) c _

/-- The result is the reference's, when the tokens and the router's weights are finite. -/
theorem res_eq (H : Holds m x w r W S) (hx : Finite x) (hw : Finite w) :
    res m = Cert.ReferenceIdeal.Read.val_main_v23 (F := Ideal) x w r W S := by
  funext j
  obtain ⟨i, o, rfl⟩ : ∃ (i o : Fin 256), j = ix2 i o := ⟨j 0, j 1, eq_ix2 j⟩
  refine (res_at H i o).trans ?_
  by_cases hr : ∃ e : Fin 8, r (ix2 i (0 : Fin 1)) = BitVec.ofNat 32 e.val
  · obtain ⟨e, he⟩ := hr
    rw [Cert.ReferenceIdeal.Layer.result_of_word x w r W S i o e he, he,
      sum_terms_of_word x W i o (fun e => prob_real (score_finite hx hw i) e) e]
  · have hr' : ∀ e : Fin 8, r (ix2 i (0 : Fin 1)) ≠ BitVec.ofNat 32 e.val := fun e he => hr ⟨e, he⟩
    rw [Cert.ReferenceIdeal.Layer.result_of_no_word x w r W S i o hr', sum_terms_of_no_word x W i o _ hr']

end Cert.KernelIdeal.Layer

end
-- ==== Proof.Value.Claim.lean ====
/-
The algebraic claim and the frames of the reference: what every device starts with is put in the words of the layer, and the
two runs give the result.
-/
module

public import proofs.«01_k».proof.Defs
public import proofs.«01_k».proof.Proof.Value.Equation
public import Idealize.ShloMosaic.Adequacy
public import Idealize.ShloMosaic.Init

@[expose] public section

noncomputable section

namespace Cert.Proof

open Idealize.ShloMosaic Idealize.ShloMosaic.TcCoe Idealize.ShloMosaic.ValueIdx Idealize.SL.Sem

/-- The side conditions that the precondition's text states. -/
theorem preKernel : Cert.Pre_scores_finite_KernelIdeal.Facts := ⟨by decide, by decide⟩
theorem preReference : Cert.Pre_scores_finite_ReferenceIdeal.Facts := ⟨by decide, by decide⟩

/-- An extended real whose absolute value is below infinity is a real number. -/
theorem real_of_abs_lt {a b : EReal} (hb : b = ⊤) (h : Ideal.cmp .olt (max a (-a)) b = 1#1) : a ≠ ⊤ ∧ a ≠ ⊥ := by
  subst hb
  constructor
  · rintro rfl
    simp [Ideal.cmp] at h
  · rintro rfl
    simp [Ideal.cmp] at h

theorem inf_word : Ideal.ofBits .f32 0x7F800000#32 = ⊤ := by simp [Ideal.ofBits, Ideal.ieee]

section Kernel
open Cert.KernelIdeal Cert.KernelIdeal.Gen Cert.KernelIdeal.Run Cert.KernelIdeal.Layer Cert.Layer

variable (m : (ℓ : Loc nD τ sig) → Buf (Elt Ideal) ℓ)

/-- Under the precondition the tokens are finite, -/
theorem finite_tokens (h : @Pre_KernelIdeal_scores_finite_KernelIdeal preKernel m) (c : Dev nD) :
    Finite (s := ⟨2, ![256, 128]⟩) (m ((c : Thread nD τ).loc main_arg0)) :=
  fun i => real_of_abs_lt inf_word (congrFun (h c).1 i)
/-- and the router's weights. -/
theorem finite_router (h : @Pre_KernelIdeal_scores_finite_KernelIdeal preKernel m) (c : Dev nD) :
    Finite (s := ⟨2, ![128, 8]⟩) (m ((c : Thread nD τ).loc main_arg1)) :=
  fun i => real_of_abs_lt inf_word (congrFun (h c).2 i)

/-- The reference's arrays are what the devices start with, in the words of the layer. -/
theorem holds_of {x : Tok} {w : Rtr} {r : (⟨2, ![256, 1]⟩ : Shape).Idx → BitVec 32} {W : Exps} {S : Shr}
    (h0 : ∀ c : Dev nD, m ((c : Thread nD τ).loc main_arg0) = x) (h1 : ∀ c : Dev nD, m ((c : Thread nD τ).loc main_arg1) = w)
    (h2 : ∀ c : Dev nD, m ((c : Thread nD τ).loc main_arg2) = r)
    (h3 : ∀ c : Dev nD, m ((c : Thread nD τ).loc main_arg3) = Layout.block ⟨3, ![2, 128, 256]⟩ ⟨3, ![8, 128, 256]⟩ 0 4 c W)
    (h4 : ∀ c : Dev nD, m ((c : Thread nD τ).loc main_arg4) = S) : Holds m x w r W S where
  x c := (xs_eq m c).trans (h0 c)
  w c := (rw'_eq m c).trans (h1 c)
  r c := (ri_eq m c).trans (h2 c)
  S c := (sw_eq m c).trans (h4 c)
  W0 c k o := by
    refine (congrFun ((ew_eq m c).trans (h3 c)) _).trans (congrArg W (funext fun a => Fin.ext ?_))
    match a with
    | ⟨0, _⟩ => show c.val * 2 + 0 = 2 * c.val; omega
    | ⟨1, _⟩ => rfl
    | ⟨2, _⟩ => rfl
  W1 c k o := by
    refine (congrFun ((ew_eq m c).trans (h3 c)) _).trans (congrArg W (funext fun a => Fin.ext ?_))
    match a with
    | ⟨0, _⟩ => show c.val * 2 + 1 = 2 * c.val + 1; omega
    | ⟨1, _⟩ => rfl
    | ⟨2, _⟩ => rfl

end Kernel

/-- The kernel and the reference give equal results. -/
theorem algebraic : @algebraic_KernelIdeal_ReferenceIdeal_pre_scores_finite_KernelIdeal Cert.KernelIdeal.Gen.facts
    Cert.ReferenceIdeal.Gen.facts preKernel := by
  intro m g m' g' hpre hag
  have hx := finite_tokens m hpre 0
  have hw := finite_router m hpre 0
  rw [(hag 0).1] at hx
  rw [(hag 0).2.1] at hw
  have H := holds_of m (fun c => (hag c).1) (fun c => (hag c).2.1) (fun c => (hag c).2.2.1) (fun c => (hag c).2.2.2.1)
    (fun c => (hag c).2.2.2.2)
  have he := Cert.KernelIdeal.Layer.res_eq H hx hw
  refine ⟨Cert.KernelIdeal.Run.res m, ?_, ?_⟩
  · exact (θ_run _ _ _).mono (fun r h c => h.1 c) (Cert.KernelIdeal.Run.run_main m g)
  · exact (θ_run _ _ _).mono (fun r h => ⟨(h 0).1.trans ((Cert.ReferenceIdeal.Read.val_main_v23_eq _ _ _ _ _).trans he.symm), (h 0).2⟩)
      (Cert.ReferenceIdeal.Value.run m' g')

/-- The reference runs, keeps its arguments and leaves every semaphore at zero. -/
theorem reference_quiescent : @quiescent_ReferenceIdeal Cert.ReferenceIdeal.Gen.facts :=
  fun m g _ => (θ_run _ _ _).mono (fun r h => ⟨fun c => (h c).2, sem_eq_zero_of_no_sems (by decide) r.2⟩)
    (Cert.ReferenceIdeal.Value.run m g)

/-- The kernel read at the extended reals runs, keeps its arguments and leaves every semaphore at zero. -/
theorem kernelIdeal_quiescent : @quiescent_KernelIdeal Cert.KernelIdeal.Gen.facts :=
  fun m g _ => (θ_run _ _ _).mono (fun r h => ⟨fun c => (h.1 c).2, h.2⟩) (Cert.KernelIdeal.Run.run_main m g)

end Cert.Proof

end
-- ==== Proof.lean ====
module

public import proofs.«01_k».proof.Defs
public import proofs.«01_k».proof.Proof.KernelRun.Main
public import proofs.«01_k».proof.Proof.Value.Claim

@[expose] public section

noncomputable section

namespace Cert.Proof

open Idealize.ShloMosaic Idealize.SL.Sem

/-- The kernel runs, keeps its arguments and leaves every semaphore at zero. -/
theorem kernel_quiescent : @quiescent_Kernel Cert.Kernel.Gen.facts :=
  fun m g _ => (θ_run _ _ _).mono (fun r h => ⟨fun c => (h.1 c).2, h.2⟩) (Cert.Kernel.Run.run_main m g)

/-- Everything the certificate claims. -/
theorem claim : Cert.Claim :=
  ⟨Cert.Kernel.Gen.facts, Cert.KernelIdeal.Gen.facts, Cert.ReferenceIdeal.Gen.facts, preKernel, preReference,
    kernel_quiescent, kernelIdeal_quiescent, fun m g _ => kernelIdeal_quiescent m g trivial, reference_quiescent,
    fun m g _ => reference_quiescent m g trivial, trivial, algebraic⟩

end Cert.Proof

end
